-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_knots_sorted [hPre_knots_sorted : Cert.Pre_knots_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_knots_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_knots_sorted [hPre_knots_sorted : Cert.Pre_knots_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_knots_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_knots_sorted [hKernelIdeal : Cert.KernelIdeal.Facts] [hPre_knots_sorted : Cert.Pre_knots_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_knots_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_knots_sorted [hReferenceIdeal : Cert.ReferenceIdeal.Facts] [hPre_knots_sorted : Cert.Pre_knots_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_knots_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_off_knots_pre_knots_sorted [hKernelIdeal : Cert.KernelIdeal.Facts] [hReferenceIdeal : Cert.ReferenceIdeal.Facts] [hPre_knots_sorted : Cert.Pre_knots_sorted.Facts] [hOn_off_knots : Cert.On_off_knots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_knots_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 32]⟩ : Shape).Idx, (Cert.On_off_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 32]⟩ : Shape).Idx, (Cert.On_off_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v149) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_knots_sorted : Cert.Pre_knots_sorted.Facts) (hOn_off_knots : Cert.On_off_knots.Facts),
    quiescent_Kernel (hKernel := hKernel)
    ∧ quiescent_KernelIdeal (hKernelIdeal := hKernelIdeal)
    ∧ quiescent_KernelIdeal_pre_knots_sorted (hKernelIdeal := hKernelIdeal) (hPre_knots_sorted := hPre_knots_sorted)
    ∧ quiescent_ReferenceIdeal (hReferenceIdeal := hReferenceIdeal)
    ∧ quiescent_ReferenceIdeal_pre_knots_sorted (hReferenceIdeal := hReferenceIdeal) (hPre_knots_sorted := hPre_knots_sorted)
    ∧ preserves_Kernel_KernelIdeal
    ∧ algebraic_KernelIdeal_ReferenceIdeal_on_off_knots_pre_knots_sorted (hKernelIdeal := hKernelIdeal) (hReferenceIdeal := hReferenceIdeal) (hPre_knots_sorted := hPre_knots_sorted) (hOn_off_knots := hOn_off_knots)
-- ==== On_off_knots.lean ====
abbrev S4096x64 : Shape := ⟨2, ![4096, 64]⟩
abbrev S64x64x16 : Shape := ⟨3, ![64, 64, 16]⟩
abbrev S64x32x16 : Shape := ⟨3, ![64, 32, 16]⟩
abbrev S_ : Shape := ⟨0, ![]⟩
abbrev S4096x16 : Shape := ⟨2, ![4096, 16]⟩
abbrev S64x4096 : Shape := ⟨2, ![64, 4096]⟩
abbrev S64x64x4096 : Shape := ⟨3, ![64, 64, 4096]⟩
abbrev S4096x4096 : Shape := ⟨2, ![4096, 4096]⟩
abbrev S4096x1x16 : Shape := ⟨3, ![4096, 1, 16]⟩
abbrev S4096x4096x1 : Shape := ⟨3, ![4096, 4096, 1]⟩
abbrev S4096x4096x16 : Shape := ⟨3, ![4096, 4096, 16]⟩
abbrev S64x1x4096 : Shape := ⟨3, ![64, 1, 4096]⟩
abbrev S4096x64x1x1 : Shape := ⟨4, ![4096, 64, 1, 1]⟩
abbrev S64x64x14 : Shape := ⟨3, ![64, 64, 14]⟩
abbrev S1x64x64x14 : Shape := ⟨4, ![1, 64, 64, 14]⟩
abbrev S4096x64x64x14 : Shape := ⟨4, ![4096, 64, 64, 14]⟩
abbrev S4096 : Shape := ⟨1, ![4096]⟩
abbrev S4096x1 : Shape := ⟨2, ![4096, 1]⟩
abbrev S64x32x14 : Shape := ⟨3, ![64, 32, 14]⟩
abbrev S1x64x32x14 : Shape := ⟨4, ![1, 64, 32, 14]⟩
abbrev S4096x64x32x14 : Shape := ⟨4, ![4096, 64, 32, 14]⟩
abbrev S4096x32 : Shape := ⟨2, ![4096, 32]⟩

class Facts : Prop where
  bcast_S_S4096x64 : S_.BroadcastsInDim S4096x64 (![] : Fin 0 → Fin S4096x64.rank)
  shapeCasts_S64x64x16_S4096x16 : S64x64x16.ShapeCasts S4096x16
  transposes_S4096x64_S64x4096_1_0 : S4096x64.Transposes [1, 0] S64x4096
  bcast_S64x4096_S64x64x4096_0_2 : S64x4096.BroadcastsInDim S64x64x4096 (![0, 2] : Fin 2 → Fin S64x64x4096.rank)
  shapeCasts_S64x64x4096_S4096x4096 : S64x64x4096.ShapeCasts S4096x4096
  bcast_S4096x16_S4096x1x16_0_2 : S4096x16.BroadcastsInDim S4096x1x16 (![0, 2] : Fin 2 → Fin S4096x1x16.rank)
  bcast_S4096x4096_S4096x4096x1_0_1 : S4096x4096.BroadcastsInDim S4096x4096x1 (![0, 1] : Fin 2 → Fin S4096x4096x1.rank)
  bcast_S4096x1x16_S4096x4096x16_0_1_2 : S4096x1x16.BroadcastsInDim S4096x4096x16 (![0, 1, 2] : Fin 3 → Fin S4096x4096x16.rank)
  bcast_S4096x4096x1_S4096x4096x16_0_1_2 : S4096x4096x1.BroadcastsInDim S4096x4096x16 (![0, 1, 2] : Fin 3 → Fin S4096x4096x16.rank)
  natLt_1_32 : 1 < 32
  reducesTo_S4096x4096x16_S4096x4096_d2 : S4096x4096x16.ReducesTo [2] S4096x4096
  h_S_ : 0 < S_.numel
  bcast_S_S4096x4096 : S_.BroadcastsInDim S4096x4096 (![] : Fin 0 → Fin S4096x4096.rank)
  shapeCasts_S4096x4096_S64x64x4096 : S4096x4096.ShapeCasts S64x64x4096
  bcast_S64x4096_S64x1x4096_0_2 : S64x4096.BroadcastsInDim S64x1x4096 (![0, 2] : Fin 2 → Fin S64x1x4096.rank)
  bcast_S64x1x4096_S64x64x4096_0_1_2 : S64x1x4096.BroadcastsInDim S64x64x4096 (![0, 1, 2] : Fin 3 → Fin S64x64x4096.rank)
  reducesTo_S64x64x4096_S64x4096_d0 : S64x64x4096.ReducesTo [0] S64x4096
  transposes_S64x4096_S4096x64_1_0 : S64x4096.Transposes [1, 0] S4096x64
  bcast_S4096x64_S4096x64x1x1_0_1 : S4096x64.BroadcastsInDim S4096x64x1x1 (![0, 1] : Fin 2 → Fin S4096x64x1x1.rank)
  slices_S64x64x16_S64x64x14_0_0_1 : S64x64x16.Slices ![0, 0, 1] S64x64x14
  bcast_S64x64x14_S1x64x64x14_1_2_3 : S64x64x14.BroadcastsInDim S1x64x64x14 (![1, 2, 3] : Fin 3 → Fin S1x64x64x14.rank)
  bcast_S4096x64x1x1_S4096x64x64x14_0_1_2_3 : S4096x64x1x1.BroadcastsInDim S4096x64x64x14 (![0, 1, 2, 3] : Fin 4 → Fin S4096x64x64x14.rank)
  bcast_S1x64x64x14_S4096x64x64x14_0_1_2_3 : S1x64x64x14.BroadcastsInDim S4096x64x64x14 (![0, 1, 2, 3] : Fin 4 → Fin S4096x64x64x14.rank)
  reducesTo_S4096x64x64x14_S4096x64_d1_3 : S4096x64x64x14.ReducesTo [1, 3] S4096x64
  reducesTo_S4096x64_S4096_d1 : S4096x64.ReducesTo [1] S4096
  bcast_S4096_S4096x1_0 : S4096.BroadcastsInDim S4096x1 (![0] : Fin 1 → Fin S4096x1.rank)
  slices_S64x32x16_S64x32x14_0_0_1 : S64x32x16.Slices ![0, 0, 1] S64x32x14
  bcast_S64x32x14_S1x64x32x14_1_2_3 : S64x32x14.BroadcastsInDim S1x64x32x14 (![1, 2, 3] : Fin 3 → Fin S1x64x32x14.rank)
  bcast_S4096x64x1x1_S4096x64x32x14_0_1_2_3 : S4096x64x1x1.BroadcastsInDim S4096x64x32x14 (![0, 1, 2, 3] : Fin 4 → Fin S4096x64x32x14.rank)
  bcast_S1x64x32x14_S4096x64x32x14_0_1_2_3 : S1x64x32x14.BroadcastsInDim S4096x64x32x14 (![0, 1, 2, 3] : Fin 4 → Fin S4096x64x32x14.rank)
  reducesTo_S4096x64x32x14_S4096x32_d1_3 : S4096x64x32x14.ReducesTo [1, 3] S4096x32
  bcast_S4096x1_S4096x32_0_1 : S4096x1.BroadcastsInDim S4096x32 (![0, 1] : Fin 2 → Fin S4096x32.rank)
  gather_S4096x16_S4096x4096x1_S4096x4096_n_1_0_0_1_2_11_wf : GatherDims.WF S4096x16 S4096x4096x1 S4096x4096 [] [1] [0] [1] [0] 2 ![1, 1]

variable [Facts]

def gather_S4096x16_S4096x4096x1_S4096x4096_n_1_0_0_1_2_11 : GatherDims S4096x16 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x16_S4096x4096x1_S4096x4096_n_1_0_0_1_2_11_wf
def fn_remainder {F : FTy → Type} [FloatOps F] (arg0 : FVec F S4096x64 .f32) (arg1 : FVec F S_ .f32) : FVec F S4096x64 .f32 :=
  let v0 : FVec F S_ .f32 := id arg1
  let v1 : FVec F S4096x64 .f32 := broadcastInDim S4096x64 ![] bcast_S_S4096x64 v0
  let v2 : FVec F S4096x64 .f32 := Host.remf arg0 v1
  let cst : FVec F S_ .f32 := constant S_ .f32 0x00000000#32
  let v3 : FVec F S4096x64 .f32 := broadcastInDim S4096x64 ![] bcast_S_S4096x64 cst
  let v4 : IVec S4096x64 1 := cmpf .une v2 v3
  let cst_0 : FVec F S_ .f32 := constant S_ .f32 0x00000000#32
  let v5 : FVec F S4096x64 .f32 := broadcastInDim S4096x64 ![] bcast_S_S4096x64 cst_0
  let v6 : IVec S4096x64 1 := cmpf .olt v2 v5
  let cst_1 : FVec F S_ .f32 := constant S_ .f32 0x00000000#32
  let v7 : IVec S_ 1 := cmpf .olt v0 cst_1
  let v8 : IVec S4096x64 1 := broadcastInDim S4096x64 ![] bcast_S_S4096x64 v7
  let v9 : IVec S4096x64 1 := cmpi .ne v6 v8
  let v10 : IVec S4096x64 1 := andi v9 v4
  let v11 : FVec F S4096x64 .f32 := broadcastInDim S4096x64 ![] bcast_S_S4096x64 v0
  let v12 : FVec F S4096x64 .f32 := addf v2 v11
  let v13 : FVec F S4096x64 .f32 := select v10 v12 v2
  v13

def fn_clip {F : FTy → Type} [FloatOps F] (arg0 : IVec S4096x4096 32) (arg1 : IVec S_ 32) (arg2 : IVec S_ 32) : IVec S4096x4096 32 :=
  let v0 : IVec S_ 32 := id arg1
  let v1 : IVec S4096x4096 32 := broadcastInDim S4096x4096 ![] bcast_S_S4096x4096 v0
  let v2 : IVec S4096x4096 32 := maxsi v1 arg0
  let v3 : IVec S_ 32 := id arg2
  let v4 : IVec S4096x4096 32 := broadcastInDim S4096x4096 ![] bcast_S_S4096x4096 v3
  let v5 : IVec S4096x4096 32 := minsi v4 v2
  v5

def fn_part6 {F : FTy → Type} [FloatOps F] (main_arg3 : FVec F S64x32x16 .f32) (main_v96 : IVec S4096x1 1) (main_v104 : FVec F S4096x64 .f32) (main_v107 : FVec F S4096x64 .f32) (main_cst_33 : FVec F S_ .f32) : IVec S4096x32 1 :=
  let main_v108 : FVec F S4096x64 .f32 := broadcastInDim S4096x64 ![] bcast_S_S4096x64 main_cst_33
  let main_v109 : FVec F S4096x64 .f32 := subf main_v108 main_v107
  let main_v110 : FVec F S4096x64x1x1 .f32 := broadcastInDim S4096x64x1x1 ![0, 1] bcast_S4096x64_S4096x64x1x1_0_1 main_v104
  let main_v111 : FVec F S64x32x14 .f32 := (extractStridedSlice S64x32x14 ![0, 0, 1] · slices_S64x32x16_S64x32x14_0_0_1) main_arg3
  let main_v112 : FVec F S1x64x32x14 .f32 := broadcastInDim S1x64x32x14 ![1, 2, 3] bcast_S64x32x14_S1x64x32x14_1_2_3 main_v111
  let main_v113 : FVec F S4096x64x32x14 .f32 := broadcastInDim S4096x64x32x14 ![0, 1, 2, 3] bcast_S4096x64x1x1_S4096x64x32x14_0_1_2_3 main_v110
  let main_v114 : FVec F S4096x64x32x14 .f32 := broadcastInDim S4096x64x32x14 ![0, 1, 2, 3] bcast_S1x64x32x14_S4096x64x32x14_0_1_2_3 main_v112
  let main_v115 : IVec S4096x64x32x14 1 := cmpf .une main_v113 main_v114
  let main_c_34 : IVec S_ 1 := constantI S_ 1 1#1
  let main_v116 : IVec S4096x32 1 := (fun x v => Host.reduce IntOp.andi x v reducesTo_S4096x64x32x14_S4096x32_d1_3 h_S_) main_v115 main_c_34
  let main_v117 : IVec S4096x32 1 := broadcastInDim S4096x32 ![0, 1] bcast_S4096x1_S4096x32_0_1 main_v96
  let main_v118 : IVec S4096x32 1 := andi main_v117 main_v116
  main_v118

def fn_part5 {F : FTy → Type} [FloatOps F] (main_arg3 : FVec F S64x32x16 .f32) (main_v74 : FVec F S4096x64 .f32) (main_v90 : FVec F S1x64x64x14 .f32) (main_v91 : FVec F S4096x64x64x14 .f32) : IVec S4096x32 1 :=
  let main_v92 : FVec F S4096x64x64x14 .f32 := broadcastInDim S4096x64x64x14 ![0, 1, 2, 3] bcast_S1x64x64x14_S4096x64x64x14_0_1_2_3 main_v90
  let main_v93 : IVec S4096x64x64x14 1 := cmpf .une main_v91 main_v92
  let main_c_26 : IVec S_ 1 := constantI S_ 1 1#1
  let main_v94 : IVec S4096x64 1 := (fun x v => Host.reduce IntOp.andi x v reducesTo_S4096x64x64x14_S4096x64_d1_3 h_S_) main_v93 main_c_26
  let main_c_27 : IVec S_ 1 := constantI S_ 1 1#1
  let main_v95 : IVec S4096 1 := (fun x v => Host.reduce IntOp.andi x v reducesTo_S4096x64_S4096_d1 h_S_) main_v94 main_c_27
  let main_v96 : IVec S4096x1 1 := broadcastInDim S4096x1 ![0] bcast_S4096_S4096x1_0 main_v95
  let main_cst_28 : FVec F S_ .f32 := constant S_ .f32 0xBF800000#32
  let main_v97 : FVec F S4096x64 .f32 := broadcastInDim S4096x64 ![] bcast_S_S4096x64 main_cst_28
  let main_v98 : FVec F S4096x64 .f32 := subf main_v74 main_v97
  let main_cst_29 : FVec F S_ .f32 := constant S_ .f32 0x40000000#32
  let main_v99 : FVec F S4096x64 .f32 := broadcastInDim S4096x64 ![] bcast_S_S4096x64 main_cst_29
  let main_v100 : FVec F S4096x64 .f32 := Host.divf main_v98 main_v99
  let main_v101 : FVec F S4096x64 .f32 := Host.floor main_v100
  let main_cst_30 : FVec F S_ .f32 := constant S_ .f32 0x40000000#32
  let main_v102 : FVec F S4096x64 .f32 := broadcastInDim S4096x64 ![] bcast_S_S4096x64 main_cst_30
  let main_v103 : FVec F S4096x64 .f32 := mulf main_v101 main_v102
  let main_v104 : FVec F S4096x64 .f32 := subf main_v74 main_v103
  let main_cst_31 : FVec F S_ .f32 := constant S_ .f32 0x40000000#32
  let main_v105 : FVec F S4096x64 .f32 := fn_remainder (F := F) main_v101 main_cst_31
  let main_cst_32 : FVec F S_ .f32 := constant S_ .f32 0x40000000#32
  let main_v106 : FVec F S4096x64 .f32 := broadcastInDim S4096x64 ![] bcast_S_S4096x64 main_cst_32
  let main_v107 : FVec F S4096x64 .f32 := mulf main_v106 main_v105
  let main_cst_33 : FVec F S_ .f32 := constant S_ .f32 0x3F800000#32
  fn_part6 (F := F) main_arg3 main_v96 main_v104 main_v107 main_cst_33

def fn_part4 {F : FTy → Type} [FloatOps F] (main_arg0 : FVec F S4096x64 .f32) (main_arg1 : FVec F S64x64x16 .f32) (main_arg3 : FVec F S64x32x16 .f32) (main_v73 : FVec F S64x4096 .f32) : IVec S4096x32 1 :=
  let main_v74 : FVec F S4096x64 .f32 := (transpose S4096x64 [1, 0] · transposes_S64x4096_S4096x64_1_0) main_v73
  let main_cst_20 : FVec F S_ .f32 := constant S_ .f32 0xBF800000#32
  let main_v75 : FVec F S4096x64 .f32 := broadcastInDim S4096x64 ![] bcast_S_S4096x64 main_cst_20
  let main_v76 : FVec F S4096x64 .f32 := subf main_arg0 main_v75
  let main_cst_21 : FVec F S_ .f32 := constant S_ .f32 0x40000000#32
  let main_v77 : FVec F S4096x64 .f32 := broadcastInDim S4096x64 ![] bcast_S_S4096x64 main_cst_21
  let main_v78 : FVec F S4096x64 .f32 := Host.divf main_v76 main_v77
  let main_v79 : FVec F S4096x64 .f32 := Host.floor main_v78
  let main_cst_22 : FVec F S_ .f32 := constant S_ .f32 0x40000000#32
  let main_v80 : FVec F S4096x64 .f32 := broadcastInDim S4096x64 ![] bcast_S_S4096x64 main_cst_22
  let main_v81 : FVec F S4096x64 .f32 := mulf main_v79 main_v80
  let main_v82 : FVec F S4096x64 .f32 := subf main_arg0 main_v81
  let main_cst_23 : FVec F S_ .f32 := constant S_ .f32 0x40000000#32
  let main_v83 : FVec F S4096x64 .f32 := fn_remainder (F := F) main_v79 main_cst_23
  let main_cst_24 : FVec F S_ .f32 := constant S_ .f32 0x40000000#32
  let main_v84 : FVec F S4096x64 .f32 := broadcastInDim S4096x64 ![] bcast_S_S4096x64 main_cst_24
  let main_v85 : FVec F S4096x64 .f32 := mulf main_v84 main_v83
  let main_cst_25 : FVec F S_ .f32 := constant S_ .f32 0x3F800000#32
  let main_v86 : FVec F S4096x64 .f32 := broadcastInDim S4096x64 ![] bcast_S_S4096x64 main_cst_25
  let main_v87 : FVec F S4096x64 .f32 := subf main_v86 main_v85
  let main_v88 : FVec F S4096x64x1x1 .f32 := broadcastInDim S4096x64x1x1 ![0, 1] bcast_S4096x64_S4096x64x1x1_0_1 main_v82
  let main_v89 : FVec F S64x64x14 .f32 := (extractStridedSlice S64x64x14 ![0, 0, 1] · slices_S64x64x16_S64x64x14_0_0_1) main_arg1
  let main_v90 : FVec F S1x64x64x14 .f32 := broadcastInDim S1x64x64x14 ![1, 2, 3] bcast_S64x64x14_S1x64x64x14_1_2_3 main_v89
  let main_v91 : FVec F S4096x64x64x14 .f32 := broadcastInDim S4096x64x64x14 ![0, 1, 2, 3] bcast_S4096x64x1x1_S4096x64x64x14_0_1_2_3 main_v88
  fn_part5 (F := F) main_arg3 main_v74 main_v90 main_v91

def fn_part3 {F : FTy → Type} [FloatOps F] (main_arg0 : FVec F S4096x64 .f32) (main_arg1 : FVec F S64x64x16 .f32) (main_arg3 : FVec F S64x32x16 .f32) (main_v12 : FVec F S4096x64 .f32) (main_v14 : FVec F S4096x16 .f32) (main_v17 : FVec F S4096x4096 .f32) (main_v34 : FVec F S4096x4096 .f32) (main_v43 : FVec F S4096x4096 .f32) (main_v50 : FVec F S4096x4096 .f32) (main_v52 : IVec S4096x4096 32) (main_c_16 : IVec S_ 32) : IVec S4096x32 1 :=
  let main_v53 : IVec S4096x4096 32 := broadcastInDim S4096x4096 ![] bcast_S_S4096x4096 main_c_16
  let main_v54 : IVec S4096x4096 1 := cmpi .slt main_v52 main_v53
  let main_c_17 : IVec S_ 32 := constantI S_ 32 16#32
  let main_v55 : IVec S4096x4096 32 := broadcastInDim S4096x4096 ![] bcast_S_S4096x4096 main_c_17
  let main_v56 : IVec S4096x4096 32 := addi main_v52 main_v55
  let main_v57 : IVec S4096x4096 32 := select main_v54 main_v56 main_v52
  let main_v58 : IVec S4096x4096x1 32 := broadcastInDim S4096x4096x1 ![0, 1] bcast_S4096x4096_S4096x4096x1_0_1 main_v57
  let main_v59 : FVec F S4096x4096 .f32 := (fun x i => Host.gather gather_S4096x16_S4096x4096x1_S4096x4096_n_1_0_0_1_2_11 x i) main_v14 main_v58
  let main_v60 : FVec F S4096x4096 .f32 := subf main_v17 main_v34
  let main_v61 : FVec F S4096x4096 .f32 := subf main_v43 main_v34
  let main_cst_18 : FVec F S_ .f32 := constant S_ .f32 0x2B8CBCCC#32
  let main_v62 : FVec F S4096x4096 .f32 := broadcastInDim S4096x4096 ![] bcast_S_S4096x4096 main_cst_18
  let main_v63 : FVec F S4096x4096 .f32 := addf main_v61 main_v62
  let main_v64 : FVec F S4096x4096 .f32 := Host.divf main_v60 main_v63
  let main_v65 : FVec F S4096x4096 .f32 := subf main_v59 main_v50
  let main_v66 : FVec F S4096x4096 .f32 := mulf main_v64 main_v65
  let main_v67 : FVec F S4096x4096 .f32 := addf main_v50 main_v66
  let main_v68 : FVec F S64x64x4096 .f32 := shapeCast S64x64x4096 main_v67 shapeCasts_S4096x4096_S64x64x4096
  let main_v69 : FVec F S64x4096 .f32 := (transpose S64x4096 [1, 0] · transposes_S4096x64_S64x4096_1_0) main_v12
  let main_v70 : FVec F S64x1x4096 .f32 := broadcastInDim S64x1x4096 ![0, 2] bcast_S64x4096_S64x1x4096_0_2 main_v69
  let main_v71 : FVec F S64x64x4096 .f32 := broadcastInDim S64x64x4096 ![0, 1, 2] bcast_S64x1x4096_S64x64x4096_0_1_2 main_v70
  let main_v72 : FVec F S64x64x4096 .f32 := mulf main_v68 main_v71
  let main_cst_19 : FVec F S_ .f32 := constant S_ .f32 0x00000000#32
  let main_v73 : FVec F S64x4096 .f32 := (fun x v => Host.reduceAdd x v reducesTo_S64x64x4096_S64x4096_d0 h_S_) main_v72 main_cst_19
  fn_part4 (F := F) main_arg0 main_arg1 main_arg3 main_v73

def fn_part2 {F : FTy → Type} [FloatOps F] (main_arg0 : FVec F S4096x64 .f32) (main_arg1 : FVec F S64x64x16 .f32) (main_arg3 : FVec F S64x32x16 .f32) (main_v12 : FVec F S4096x64 .f32) (main_v13 : FVec F S4096x16 .f32) (main_v14 : FVec F S4096x16 .f32) (main_v17 : FVec F S4096x4096 .f32) (main_v27 : IVec S4096x4096 32) (main_v34 : FVec F S4096x4096 .f32) (main_c_10 : IVec S_ 32) : IVec S4096x32 1 :=
  let main_v35 : IVec S4096x4096 32 := broadcastInDim S4096x4096 ![] bcast_S_S4096x4096 main_c_10
  let main_v36 : IVec S4096x4096 32 := addi main_v27 main_v35
  let main_c_11 : IVec S_ 32 := constantI S_ 32 0#32
  let main_v37 : IVec S4096x4096 32 := broadcastInDim S4096x4096 ![] bcast_S_S4096x4096 main_c_11
  let main_v38 : IVec S4096x4096 1 := cmpi .slt main_v36 main_v37
  let main_c_12 : IVec S_ 32 := constantI S_ 32 16#32
  let main_v39 : IVec S4096x4096 32 := broadcastInDim S4096x4096 ![] bcast_S_S4096x4096 main_c_12
  let main_v40 : IVec S4096x4096 32 := addi main_v36 main_v39
  let main_v41 : IVec S4096x4096 32 := select main_v38 main_v40 main_v36
  let main_v42 : IVec S4096x4096x1 32 := broadcastInDim S4096x4096x1 ![0, 1] bcast_S4096x4096_S4096x4096x1_0_1 main_v41
  let main_v43 : FVec F S4096x4096 .f32 := (fun x i => Host.gather gather_S4096x16_S4096x4096x1_S4096x4096_n_1_0_0_1_2_11 x i) main_v13 main_v42
  let main_c_13 : IVec S_ 32 := constantI S_ 32 0#32
  let main_v44 : IVec S4096x4096 32 := broadcastInDim S4096x4096 ![] bcast_S_S4096x4096 main_c_13
  let main_v45 : IVec S4096x4096 1 := cmpi .slt main_v27 main_v44
  let main_c_14 : IVec S_ 32 := constantI S_ 32 16#32
  let main_v46 : IVec S4096x4096 32 := broadcastInDim S4096x4096 ![] bcast_S_S4096x4096 main_c_14
  let main_v47 : IVec S4096x4096 32 := addi main_v27 main_v46
  let main_v48 : IVec S4096x4096 32 := select main_v45 main_v47 main_v27
  let main_v49 : IVec S4096x4096x1 32 := broadcastInDim S4096x4096x1 ![0, 1] bcast_S4096x4096_S4096x4096x1_0_1 main_v48
  let main_v50 : FVec F S4096x4096 .f32 := (fun x i => Host.gather gather_S4096x16_S4096x4096x1_S4096x4096_n_1_0_0_1_2_11 x i) main_v14 main_v49
  let main_c_15 : IVec S_ 32 := constantI S_ 32 1#32
  let main_v51 : IVec S4096x4096 32 := broadcastInDim S4096x4096 ![] bcast_S_S4096x4096 main_c_15
  let main_v52 : IVec S4096x4096 32 := addi main_v27 main_v51
  let main_c_16 : IVec S_ 32 := constantI S_ 32 0#32
  fn_part3 (F := F) main_arg0 main_arg1 main_arg3 main_v12 main_v14 main_v17 main_v34 main_v43 main_v50 main_v52 main_c_16

def fn_part1 {F : FTy → Type} [FloatOps F] (main_arg0 : FVec F S4096x64 .f32) (main_arg1 : FVec F S64x64x16 .f32) (main_arg3 : FVec F S64x32x16 .f32) (main_v12 : FVec F S4096x64 .f32) (main_v13 : FVec F S4096x16 .f32) (main_v14 : FVec F S4096x16 .f32) (main_v17 : FVec F S4096x4096 .f32) : IVec S4096x32 1 :=
  let main_v18 : FVec F S4096x1x16 .f32 := broadcastInDim S4096x1x16 ![0, 2] bcast_S4096x16_S4096x1x16_0_2 main_v13
  let main_v19 : FVec F S4096x4096x1 .f32 := broadcastInDim S4096x4096x1 ![0, 1] bcast_S4096x4096_S4096x4096x1_0_1 main_v17
  let main_v20 : FVec F S4096x4096x16 .f32 := broadcastInDim S4096x4096x16 ![0, 1, 2] bcast_S4096x1x16_S4096x4096x16_0_1_2 main_v18
  let main_v21 : FVec F S4096x4096x16 .f32 := broadcastInDim S4096x4096x16 ![0, 1, 2] bcast_S4096x4096x1_S4096x4096x16_0_1_2 main_v19
  let main_v22 : IVec S4096x4096x16 1 := cmpf .olt main_v20 main_v21
  let main_v23 : IVec S4096x4096x16 32 := (extui 32 · natLt_1_32) main_v22
  let main_c : IVec S_ 32 := constantI S_ 32 0#32
  let main_v24 : IVec S4096x4096 32 := (fun x v => Host.reduce IntOp.addi x v reducesTo_S4096x4096x16_S4096x4096_d2 h_S_) main_v23 main_c
  let main_c_5 : IVec S_ 32 := constantI S_ 32 1#32
  let main_v25 : IVec S4096x4096 32 := broadcastInDim S4096x4096 ![] bcast_S_S4096x4096 main_c_5
  let main_v26 : IVec S4096x4096 32 := subi main_v24 main_v25
  let main_c_6 : IVec S_ 32 := constantI S_ 32 0#32
  let main_c_7 : IVec S_ 32 := constantI S_ 32 14#32
  let main_v27 : IVec S4096x4096 32 := fn_clip (F := F) main_v26 main_c_6 main_c_7
  let main_c_8 : IVec S_ 32 := constantI S_ 32 0#32
  let main_v28 : IVec S4096x4096 32 := broadcastInDim S4096x4096 ![] bcast_S_S4096x4096 main_c_8
  let main_v29 : IVec S4096x4096 1 := cmpi .slt main_v27 main_v28
  let main_c_9 : IVec S_ 32 := constantI S_ 32 16#32
  let main_v30 : IVec S4096x4096 32 := broadcastInDim S4096x4096 ![] bcast_S_S4096x4096 main_c_9
  let main_v31 : IVec S4096x4096 32 := addi main_v27 main_v30
  let main_v32 : IVec S4096x4096 32 := select main_v29 main_v31 main_v27
  let main_v33 : IVec S4096x4096x1 32 := broadcastInDim S4096x4096x1 ![0, 1] bcast_S4096x4096_S4096x4096x1_0_1 main_v32
  let main_v34 : FVec F S4096x4096 .f32 := (fun x i => Host.gather gather_S4096x16_S4096x4096x1_S4096x4096_n_1_0_0_1_2_11 x i) main_v13 main_v33
  let main_c_10 : IVec S_ 32 := constantI S_ 32 1#32
  fn_part2 (F := F) main_arg0 main_arg1 main_arg3 main_v12 main_v13 main_v14 main_v17 main_v27 main_v34 main_c_10

def fn {F : FTy → Type} [FloatOps F] (main_arg0 : FVec F S4096x64 .f32) (main_arg1 : FVec F S64x64x16 .f32) (main_arg2 : FVec F S64x64x16 .f32) (main_arg3 : FVec F S64x32x16 .f32) (main_arg4 : FVec F S64x32x16 .f32) : IVec S4096x32 1 :=
  let main_cst : FVec F S_ .f32 := constant S_ .f32 0xBF800000#32
  let main_v0 : FVec F S4096x64 .f32 := broadcastInDim S4096x64 ![] bcast_S_S4096x64 main_cst
  let main_v1 : FVec F S4096x64 .f32 := subf main_arg0 main_v0
  let main_cst_0 : FVec F S_ .f32 := constant S_ .f32 0x40000000#32
  let main_v2 : FVec F S4096x64 .f32 := broadcastInDim S4096x64 ![] bcast_S_S4096x64 main_cst_0
  let main_v3 : FVec F S4096x64 .f32 := Host.divf main_v1 main_v2
  let main_v4 : FVec F S4096x64 .f32 := Host.floor main_v3
  let main_cst_1 : FVec F S_ .f32 := constant S_ .f32 0x40000000#32
  let main_v5 : FVec F S4096x64 .f32 := broadcastInDim S4096x64 ![] bcast_S_S4096x64 main_cst_1
  let main_v6 : FVec F S4096x64 .f32 := mulf main_v4 main_v5
  let main_v7 : FVec F S4096x64 .f32 := subf main_arg0 main_v6
  let main_cst_2 : FVec F S_ .f32 := constant S_ .f32 0x40000000#32
  let main_v8 : FVec F S4096x64 .f32 := fn_remainder (F := F) main_v4 main_cst_2
  let main_cst_3 : FVec F S_ .f32 := constant S_ .f32 0x40000000#32
  let main_v9 : FVec F S4096x64 .f32 := broadcastInDim S4096x64 ![] bcast_S_S4096x64 main_cst_3
  let main_v10 : FVec F S4096x64 .f32 := mulf main_v9 main_v8
  let main_cst_4 : FVec F S_ .f32 := constant S_ .f32 0x3F800000#32
  let main_v11 : FVec F S4096x64 .f32 := broadcastInDim S4096x64 ![] bcast_S_S4096x64 main_cst_4
  let main_v12 : FVec F S4096x64 .f32 := subf main_v11 main_v10
  let main_v13 : FVec F S4096x16 .f32 := shapeCast S4096x16 main_arg1 shapeCasts_S64x64x16_S4096x16
  let main_v14 : FVec F S4096x16 .f32 := shapeCast S4096x16 main_arg2 shapeCasts_S64x64x16_S4096x16
  let main_v15 : FVec F S64x4096 .f32 := (transpose S64x4096 [1, 0] · transposes_S4096x64_S64x4096_1_0) main_v7
  let main_v16 : FVec F S64x64x4096 .f32 := broadcastInDim S64x64x4096 ![0, 2] bcast_S64x4096_S64x64x4096_0_2 main_v15
  let main_v17 : FVec F S4096x4096 .f32 := shapeCast S4096x4096 main_v16 shapeCasts_S64x64x4096_S4096x4096
  fn_part1 (F := F) main_arg0 main_arg1 main_arg3 main_v12 main_v13 main_v14 main_v17
-- ==== Pre_knots_sorted.lean ====
abbrev S4096x64 : Shape := ⟨2, ![4096, 64]⟩
abbrev S64x64x16 : Shape := ⟨3, ![64, 64, 16]⟩
abbrev S64x32x16 : Shape := ⟨3, ![64, 32, 16]⟩
abbrev S64x64x15 : Shape := ⟨3, ![64, 64, 15]⟩
abbrev S_ : Shape := ⟨0, ![]⟩
abbrev S64x32x15 : Shape := ⟨3, ![64, 32, 15]⟩

class Facts : Prop where
  slices_S64x64x16_S64x64x15_0_0_0 : S64x64x16.Slices ![0, 0, 0] S64x64x15
  slices_S64x64x16_S64x64x15_0_0_1 : S64x64x16.Slices ![0, 0, 1] S64x64x15
  reducesTo_S64x64x15_S_d0_1_2 : S64x64x15.ReducesTo [0, 1, 2] S_
  h_S_ : 0 < S_.numel
  slices_S64x32x16_S64x32x15_0_0_0 : S64x32x16.Slices ![0, 0, 0] S64x32x15
  slices_S64x32x16_S64x32x15_0_0_1 : S64x32x16.Slices ![0, 0, 1] S64x32x15
  reducesTo_S64x32x15_S_d0_1_2 : S64x32x15.ReducesTo [0, 1, 2] S_

variable [Facts]

def fn {F : FTy → Type} [FloatOps F] (main_arg0 : FVec F S4096x64 .f32) (main_arg1 : FVec F S64x64x16 .f32) (main_arg2 : FVec F S64x64x16 .f32) (main_arg3 : FVec F S64x32x16 .f32) (main_arg4 : FVec F S64x32x16 .f32) : IVec S_ 1 :=
  let main_v0 : FVec F S64x64x15 .f32 := (extractStridedSlice S64x64x15 ![0, 0, 0] · slices_S64x64x16_S64x64x15_0_0_0) main_arg1
  let main_v1 : FVec F S64x64x15 .f32 := (extractStridedSlice S64x64x15 ![0, 0, 1] · slices_S64x64x16_S64x64x15_0_0_1) main_arg1
  let main_v2 : IVec S64x64x15 1 := cmpf .ole main_v0 main_v1
  let main_c : IVec S_ 1 := constantI S_ 1 1#1
  let main_v3 : IVec S_ 1 := (fun x v => Host.reduce IntOp.andi x v reducesTo_S64x64x15_S_d0_1_2 h_S_) main_v2 main_c
  let main_v4 : FVec F S64x32x15 .f32 := (extractStridedSlice S64x32x15 ![0, 0, 0] · slices_S64x32x16_S64x32x15_0_0_0) main_arg3
  let main_v5 : FVec F S64x32x15 .f32 := (extractStridedSlice S64x32x15 ![0, 0, 1] · slices_S64x32x16_S64x32x15_0_0_1) main_arg3
  let main_v6 : IVec S64x32x15 1 := cmpf .ole main_v4 main_v5
  let main_c_0 : IVec S_ 1 := constantI S_ 1 1#1
  let main_v7 : IVec S_ 1 := (fun x v => Host.reduce IntOp.andi x v reducesTo_S64x32x15_S_d0_1_2 h_S_) main_v6 main_c_0
  let main_v8 : IVec S_ 1 := andi main_v3 main_v7
  main_v8
-- ==== Kernel.lean ====
abbrev S4096x64 : Shape := ⟨2, ![4096, 64]⟩
abbrev S64x64x16 : Shape := ⟨3, ![64, 64, 16]⟩
abbrev S64x32x16 : Shape := ⟨3, ![64, 32, 16]⟩
abbrev S16x64x64 : Shape := ⟨3, ![16, 64, 64]⟩
abbrev S16x4096 : Shape := ⟨2, ![16, 4096]⟩
abbrev S16x32x64 : Shape := ⟨3, ![16, 32, 64]⟩
abbrev S16x2048 : Shape := ⟨2, ![16, 2048]⟩
abbrev S4096x32 : Shape := ⟨2, ![4096, 32]⟩
abbrev S256x64 : Shape := ⟨2, ![256, 64]⟩
abbrev S256x32 : Shape := ⟨2, ![256, 32]⟩
abbrev S256x4096 : Shape := ⟨2, ![256, 4096]⟩
abbrev S1x4096 : Shape := ⟨2, ![1, 4096]⟩
abbrev S4096 : Shape := ⟨1, ![4096]⟩
abbrev S256x2048 : Shape := ⟨2, ![256, 2048]⟩
abbrev S1x2048 : Shape := ⟨2, ![1, 2048]⟩
abbrev S2048 : Shape := ⟨1, ![2048]⟩
abbrev S2048x32 : Shape := ⟨2, ![2048, 32]⟩

abbrev nBuf : Space → Nat
  | .hbm => 14
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S64x64x16, .f32⟩
  | .hbm, ⟨2, _⟩ => ⟨S64x64x16, .f32⟩
  | .hbm, ⟨3, _⟩ => ⟨S64x32x16, .f32⟩
  | .hbm, ⟨4, _⟩ => ⟨S64x32x16, .f32⟩
  | .hbm, ⟨5, _⟩ => ⟨S16x64x64, .f32⟩
  | .hbm, ⟨6, _⟩ => ⟨S16x4096, .f32⟩
  | .hbm, ⟨7, _⟩ => ⟨S16x64x64, .f32⟩
  | .hbm, ⟨8, _⟩ => ⟨S16x4096, .f32⟩
  | .hbm, ⟨9, _⟩ => ⟨S16x32x64, .f32⟩
  | .hbm, ⟨10, _⟩ => ⟨S16x2048, .f32⟩
  | .hbm, ⟨11, _⟩ => ⟨S16x32x64, .f32⟩
  | .hbm, ⟨12, _⟩ => ⟨S16x2048, .f32⟩
  | .hbm, ⟨13, _⟩ => ⟨S4096x32, .f32⟩
  | .local _ .vmem, ⟨0, _⟩ => ⟨S256x64, .f32⟩
  | .local _ .vmem, ⟨1, _⟩ => ⟨S256x64, .f32⟩
  | .local _ .vmem, ⟨2, _⟩ => ⟨S16x4096, .f32⟩
  | .local _ .vmem, ⟨3, _⟩ => ⟨S16x4096, .f32⟩
  | .local _ .vmem, ⟨4, _⟩ => ⟨S16x2048, .f32⟩
  | .local _ .vmem, ⟨5, _⟩ => ⟨S16x2048, .f32⟩
  | .local _ .vmem, ⟨6, _⟩ => ⟨S256x32, .f32⟩
  | .local _ .vmem, ⟨7, _⟩ => ⟨S256x32, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x64 : Shape := ⟨2, ![4096, 64]⟩
abbrev S64x64x16 : Shape := ⟨3, ![64, 64, 16]⟩
abbrev S64x32x16 : Shape := ⟨3, ![64, 32, 16]⟩
abbrev S_ : Shape := ⟨0, ![]⟩
abbrev S4096x16 : Shape := ⟨2, ![4096, 16]⟩
abbrev S64x4096 : Shape := ⟨2, ![64, 4096]⟩
abbrev S64x64x4096 : Shape := ⟨3, ![64, 64, 4096]⟩
abbrev S4096x4096 : Shape := ⟨2, ![4096, 4096]⟩
abbrev S4096x1x16 : Shape := ⟨3, ![4096, 1, 16]⟩
abbrev S4096x4096x1 : Shape := ⟨3, ![4096, 4096, 1]⟩
abbrev S4096x4096x16 : Shape := ⟨3, ![4096, 4096, 16]⟩
abbrev S64x1x4096 : Shape := ⟨3, ![64, 1, 4096]⟩
abbrev S2048x16 : Shape := ⟨2, ![2048, 16]⟩
abbrev S64x32x4096 : Shape := ⟨3, ![64, 32, 4096]⟩
abbrev S2048x4096 : Shape := ⟨2, ![2048, 4096]⟩
abbrev S2048x1x16 : Shape := ⟨3, ![2048, 1, 16]⟩
abbrev S2048x4096x1 : Shape := ⟨3, ![2048, 4096, 1]⟩
abbrev S2048x4096x16 : Shape := ⟨3, ![2048, 4096, 16]⟩
abbrev S32x4096 : Shape := ⟨2, ![32, 4096]⟩
abbrev S4096x32 : Shape := ⟨2, ![4096, 32]⟩

abbrev nBuf : Space → Nat
  | .hbm => 241
  | .vmem => 0
  | .smem => 0
  | _ => 0

abbrev hbmTy0_0 (i : Nat) : BufTy := match i % 128 with
  | 0 => ⟨S4096x64, .f32⟩
  | 1 => ⟨S64x64x16, .f32⟩
  | 2 => ⟨S64x64x16, .f32⟩
  | 3 => ⟨S64x32x16, .f32⟩
  | 4 => ⟨S64x32x16, .f32⟩
  | 5 => ⟨S_, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S4096x64, .f32⟩
  | 12 => ⟨S_, .f32⟩
  | 13 => ⟨S4096x64, .f32⟩
  | 14 => ⟨S4096x64, .f32⟩
  | 15 => ⟨S4096x64, .f32⟩
  | 16 => ⟨S_, .f32⟩
  | 17 => ⟨S_, .f32⟩
  | 18 => ⟨S4096x64, .f32⟩
  | 19 => ⟨S4096x64, .f32⟩
  | 20 => ⟨S_, .f32⟩
  | 21 => ⟨S4096x64, .f32⟩
  | 22 => ⟨S4096x64, .i1⟩
  | 23 => ⟨S_, .f32⟩
  | 24 => ⟨S4096x64, .f32⟩
  | 25 => ⟨S4096x64, .i1⟩
  | 26 => ⟨S_, .f32⟩
  | 27 => ⟨S_, .i1⟩
  | 28 => ⟨S4096x64, .i1⟩
  | 29 => ⟨S4096x64, .i1⟩
  | 30 => ⟨S4096x64, .i1⟩
  | 31 => ⟨S4096x64, .f32⟩
  | 32 => ⟨S4096x64, .f32⟩
  | 33 => ⟨S4096x64, .f32⟩
  | 34 => ⟨S_, .f32⟩
  | 35 => ⟨S4096x64, .f32⟩
  | 36 => ⟨S4096x64, .f32⟩
  | 37 => ⟨S_, .f32⟩
  | 38 => ⟨S4096x64, .f32⟩
  | 39 => ⟨S4096x64, .f32⟩
  | 40 => ⟨S4096x16, .f32⟩
  | 41 => ⟨S4096x16, .f32⟩
  | 42 => ⟨S64x4096, .f32⟩
  | 43 => ⟨S64x64x4096, .f32⟩
  | 44 => ⟨S4096x4096, .f32⟩
  | 45 => ⟨S4096x1x16, .f32⟩
  | 46 => ⟨S4096x4096x1, .f32⟩
  | 47 => ⟨S4096x4096x16, .f32⟩
  | 48 => ⟨S4096x4096x16, .f32⟩
  | 49 => ⟨S4096x4096x16, .i1⟩
  | 50 => ⟨S4096x4096x16, .i32⟩
  | 51 => ⟨S_, .i32⟩
  | 52 => ⟨S4096x4096, .i32⟩
  | 53 => ⟨S_, .i32⟩
  | 54 => ⟨S4096x4096, .i32⟩
  | 55 => ⟨S4096x4096, .i32⟩
  | 56 => ⟨S_, .i32⟩
  | 57 => ⟨S_, .i32⟩
  | 58 => ⟨S_, .i32⟩
  | 59 => ⟨S4096x4096, .i32⟩
  | 60 => ⟨S4096x4096, .i32⟩
  | 61 => ⟨S_, .i32⟩
  | 62 => ⟨S4096x4096, .i32⟩
  | 63 => ⟨S4096x4096, .i32⟩
  | 64 => ⟨S_, .i32⟩
  | 65 => ⟨S4096x4096, .i32⟩
  | 66 => ⟨S4096x4096, .i1⟩
  | 67 => ⟨S_, .i32⟩
  | 68 => ⟨S4096x4096, .i32⟩
  | 69 => ⟨S4096x4096, .i32⟩
  | 70 => ⟨S4096x4096, .i32⟩
  | 71 => ⟨S4096x4096x1, .i32⟩
  | 72 => ⟨S4096x4096, .f32⟩
  | 73 => ⟨S_, .i32⟩
  | 74 => ⟨S4096x4096, .i32⟩
  | 75 => ⟨S4096x4096, .i32⟩
  | 76 => ⟨S_, .i32⟩
  | 77 => ⟨S4096x4096, .i32⟩
  | 78 => ⟨S4096x4096, .i1⟩
  | 79 => ⟨S_, .i32⟩
  | 80 => ⟨S4096x4096, .i32⟩
  | 81 => ⟨S4096x4096, .i32⟩
  | 82 => ⟨S4096x4096, .i32⟩
  | 83 => ⟨S4096x4096x1, .i32⟩
  | 84 => ⟨S4096x4096, .f32⟩
  | 85 => ⟨S_, .i32⟩
  | 86 => ⟨S4096x4096, .i32⟩
  | 87 => ⟨S4096x4096, .i1⟩
  | 88 => ⟨S_, .i32⟩
  | 89 => ⟨S4096x4096, .i32⟩
  | 90 => ⟨S4096x4096, .i32⟩
  | 91 => ⟨S4096x4096, .i32⟩
  | 92 => ⟨S4096x4096x1, .i32⟩
  | 93 => ⟨S4096x4096, .f32⟩
  | 94 => ⟨S_, .i32⟩
  | 95 => ⟨S4096x4096, .i32⟩
  | 96 => ⟨S4096x4096, .i32⟩
  | 97 => ⟨S_, .i32⟩
  | 98 => ⟨S4096x4096, .i32⟩
  | 99 => ⟨S4096x4096, .i1⟩
  | 100 => ⟨S_, .i32⟩
  | 101 => ⟨S4096x4096, .i32⟩
  | 102 => ⟨S4096x4096, .i32⟩
  | 103 => ⟨S4096x4096, .i32⟩
  | 104 => ⟨S4096x4096x1, .i32⟩
  | 105 => ⟨S4096x4096, .f32⟩
  | 106 => ⟨S4096x4096, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S4096x4096, .f32⟩
  | 113 => ⟨S4096x4096, .f32⟩
  | 114 => ⟨S4096x4096, .f32⟩
  | 115 => ⟨S64x64x4096, .f32⟩
  | 116 => ⟨S64x4096, .f32⟩
  | 117 => ⟨S64x1x4096, .f32⟩
  | 118 => ⟨S64x64x4096, .f32⟩
  | 119 => ⟨S64x64x4096, .f32⟩
  | 120 => ⟨S_, .f32⟩
  | 121 => ⟨S64x4096, .f32⟩
  | 122 => ⟨S4096x64, .f32⟩
  | 123 => ⟨S_, .f32⟩
  | 124 => ⟨S4096x64, .f32⟩
  | 125 => ⟨S4096x64, .f32⟩
  | 126 => ⟨S_, .f32⟩
  | 127 => ⟨S4096x64, .f32⟩
  | _ => ⟨S4096x64, .f32⟩

abbrev hbmTy0_1 (i : Nat) : BufTy := match i % 128 with
  | 0 => ⟨S4096x64, .f32⟩
  | 1 => ⟨S4096x64, .f32⟩
  | 2 => ⟨S_, .f32⟩
  | 3 => ⟨S4096x64, .f32⟩
  | 4 => ⟨S4096x64, .f32⟩
  | 5 => ⟨S4096x64, .f32⟩
  | 6 => ⟨S_, .f32⟩
  | 7 => ⟨S_, .f32⟩
  | 8 => ⟨S4096x64, .f32⟩
  | 9 => ⟨S4096x64, .f32⟩
  | 10 => ⟨S_, .f32⟩
  | 11 => ⟨S4096x64, .f32⟩
  | 12 => ⟨S4096x64, .i1⟩
  | 13 => ⟨S_, .f32⟩
  | 14 => ⟨S4096x64, .f32⟩
  | 15 => ⟨S4096x64, .i1⟩
  | 16 => ⟨S_, .f32⟩
  | 17 => ⟨S_, .i1⟩
  | 18 => ⟨S4096x64, .i1⟩
  | 19 => ⟨S4096x64, .i1⟩
  | 20 => ⟨S4096x64, .i1⟩
  | 21 => ⟨S4096x64, .f32⟩
  | 22 => ⟨S4096x64, .f32⟩
  | 23 => ⟨S4096x64, .f32⟩
  | 24 => ⟨S_, .f32⟩
  | 25 => ⟨S4096x64, .f32⟩
  | 26 => ⟨S4096x64, .f32⟩
  | 27 => ⟨S_, .f32⟩
  | 28 => ⟨S4096x64, .f32⟩
  | 29 => ⟨S4096x64, .f32⟩
  | 30 => ⟨S2048x16, .f32⟩
  | 31 => ⟨S2048x16, .f32⟩
  | 32 => ⟨S64x4096, .f32⟩
  | 33 => ⟨S64x32x4096, .f32⟩
  | 34 => ⟨S2048x4096, .f32⟩
  | 35 => ⟨S2048x1x16, .f32⟩
  | 36 => ⟨S2048x4096x1, .f32⟩
  | 37 => ⟨S2048x4096x16, .f32⟩
  | 38 => ⟨S2048x4096x16, .f32⟩
  | 39 => ⟨S2048x4096x16, .i1⟩
  | 40 => ⟨S2048x4096x16, .i32⟩
  | 41 => ⟨S_, .i32⟩
  | 42 => ⟨S2048x4096, .i32⟩
  | 43 => ⟨S_, .i32⟩
  | 44 => ⟨S2048x4096, .i32⟩
  | 45 => ⟨S2048x4096, .i32⟩
  | 46 => ⟨S_, .i32⟩
  | 47 => ⟨S_, .i32⟩
  | 48 => ⟨S_, .i32⟩
  | 49 => ⟨S2048x4096, .i32⟩
  | 50 => ⟨S2048x4096, .i32⟩
  | 51 => ⟨S_, .i32⟩
  | 52 => ⟨S2048x4096, .i32⟩
  | 53 => ⟨S2048x4096, .i32⟩
  | 54 => ⟨S_, .i32⟩
  | 55 => ⟨S2048x4096, .i32⟩
  | 56 => ⟨S2048x4096, .i1⟩
  | 57 => ⟨S_, .i32⟩
  | 58 => ⟨S2048x4096, .i32⟩
  | 59 => ⟨S2048x4096, .i32⟩
  | 60 => ⟨S2048x4096, .i32⟩
  | 61 => ⟨S2048x4096x1, .i32⟩
  | 62 => ⟨S2048x4096, .f32⟩
  | 63 => ⟨S_, .i32⟩
  | 64 => ⟨S2048x4096, .i32⟩
  | 65 => ⟨S2048x4096, .i32⟩
  | 66 => ⟨S_, .i32⟩
  | 67 => ⟨S2048x4096, .i32⟩
  | 68 => ⟨S2048x4096, .i1⟩
  | 69 => ⟨S_, .i32⟩
  | 70 => ⟨S2048x4096, .i32⟩
  | 71 => ⟨S2048x4096, .i32⟩
  | 72 => ⟨S2048x4096, .i32⟩
  | 73 => ⟨S2048x4096x1, .i32⟩
  | 74 => ⟨S2048x4096, .f32⟩
  | 75 => ⟨S_, .i32⟩
  | 76 => ⟨S2048x4096, .i32⟩
  | 77 => ⟨S2048x4096, .i1⟩
  | 78 => ⟨S_, .i32⟩
  | 79 => ⟨S2048x4096, .i32⟩
  | 80 => ⟨S2048x4096, .i32⟩
  | 81 => ⟨S2048x4096, .i32⟩
  | 82 => ⟨S2048x4096x1, .i32⟩
  | 83 => ⟨S2048x4096, .f32⟩
  | 84 => ⟨S_, .i32⟩
  | 85 => ⟨S2048x4096, .i32⟩
  | 86 => ⟨S2048x4096, .i32⟩
  | 87 => ⟨S_, .i32⟩
  | 88 => ⟨S2048x4096, .i32⟩
  | 89 => ⟨S2048x4096, .i1⟩
  | 90 => ⟨S_, .i32⟩
  | 91 => ⟨S2048x4096, .i32⟩
  | 92 => ⟨S2048x4096, .i32⟩
  | 93 => ⟨S2048x4096, .i32⟩
  | 94 => ⟨S2048x4096x1, .i32⟩
  | 95 => ⟨S2048x4096, .f32⟩
  | 96 => ⟨S2048x4096, .f32⟩
  | 97 => ⟨S2048x4096, .f32⟩
  | 98 => ⟨S_, .f32⟩
  | 99 => ⟨S2048x4096, .f32⟩
  | 100 => ⟨S2048x4096, .f32⟩
  | 101 => ⟨S2048x4096, .f32⟩
  | 102 => ⟨S2048x4096, .f32⟩
  | 103 => ⟨S2048x4096, .f32⟩
  | 104 => ⟨S2048x4096, .f32⟩
  | 105 => ⟨S64x32x4096, .f32⟩
  | 106 => ⟨S64x4096, .f32⟩
  | 107 => ⟨S64x1x4096, .f32⟩
  | 108 => ⟨S64x32x4096, .f32⟩
  | 109 => ⟨S64x32x4096, .f32⟩
  | 110 => ⟨S_, .f32⟩
  | 111 => ⟨S32x4096, .f32⟩
  | 112 => ⟨S4096x32, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_v8 : Ref sig .tc := ⟨.hbm, 33, rfl⟩
abbrev main_cst_3 : Ref sig .tc := ⟨.hbm, 34, rfl⟩
abbrev main_v9 : Ref sig .tc := ⟨.hbm, 35, rfl⟩
abbrev main_v10 : Ref sig .tc := ⟨.hbm, 36, rfl⟩
abbrev main_cst_4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_c_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v27 : Ref sig .tc := ⟨.hbm, 63, rfl⟩
abbrev main_c_8 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_10 : Ref sig .tc := ⟨.hbm, 73, rfl⟩
abbrev main_v35 : Ref sig .tc := ⟨.hbm, 74, rfl⟩
abbrev main_v36 : Ref sig .tc := ⟨.hbm, 75, rfl⟩
abbrev main_c_11 : Ref sig .tc := ⟨.hbm, 76, rfl⟩
abbrev main_v37 : Ref sig .tc := ⟨.hbm, 77, rfl⟩
abbrev main_v38 : Ref sig .tc := ⟨.hbm, 78, rfl⟩
abbrev main_c_12 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_13 : Ref sig .tc := ⟨.hbm, 85, rfl⟩
abbrev main_v44 : Ref sig .tc := ⟨.hbm, 86, rfl⟩
abbrev main_v45 : Ref sig .tc := ⟨.hbm, 87, rfl⟩
abbrev main_c_14 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_15 : Ref sig .tc := ⟨.hbm, 94, rfl⟩
abbrev main_v51 : Ref sig .tc := ⟨.hbm, 95, rfl⟩
abbrev main_v52 : Ref sig .tc := ⟨.hbm, 96, rfl⟩
abbrev main_c_16 : Ref sig .tc := ⟨.hbm, 97, rfl⟩
abbrev main_v53 : Ref sig .tc := ⟨.hbm, 98, rfl⟩
abbrev main_v54 : Ref sig .tc := ⟨.hbm, 99, rfl⟩
abbrev main_c_17 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_18 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_19 : Ref sig .tc := ⟨.hbm, 120, rfl⟩
abbrev main_v73 : Ref sig .tc := ⟨.hbm, 121, rfl⟩
abbrev main_v74 : Ref sig .tc := ⟨.hbm, 122, rfl⟩
abbrev main_cst_20 : Ref sig .tc := ⟨.hbm, 123, rfl⟩
abbrev main_v75 : Ref sig .tc := ⟨.hbm, 124, rfl⟩
abbrev main_v76 : Ref sig .tc := ⟨.hbm, 125, rfl⟩
abbrev main_cst_21 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_22 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_23 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_cst : Ref sig .tc := ⟨.hbm, 138, rfl⟩
abbrev main_call2_v3 : Ref sig .tc := ⟨.hbm, 139, rfl⟩
abbrev main_call2_v4 : Ref sig .tc := ⟨.hbm, 140, rfl⟩
abbrev main_call2_cst_0 : Ref sig .tc := ⟨.hbm, 141, rfl⟩
abbrev main_call2_v5 : Ref sig .tc := ⟨.hbm, 142, rfl⟩
abbrev main_call2_v6 : Ref sig .tc := ⟨.hbm, 143, rfl⟩
abbrev main_call2_cst_1 : Ref sig .tc := ⟨.hbm, 144, rfl⟩
abbrev main_call2_v7 : Ref sig .tc := ⟨.hbm, 145, rfl⟩
abbrev main_call2_v8 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_v12 : Ref sig .tc := ⟨.hbm, 150, rfl⟩
abbrev main_v83 : Ref sig .tc := ⟨.hbm, 151, rfl⟩
abbrev main_cst_24 : Ref sig .tc := ⟨.hbm, 152, rfl⟩
abbrev main_v84 : Ref sig .tc := ⟨.hbm, 153, rfl⟩
abbrev main_v85 : Ref sig .tc := ⟨.hbm, 154, rfl⟩
abbrev main_cst_25 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_c_26 : Ref sig .tc := ⟨.hbm, 169, rfl⟩
abbrev main_v99 : Ref sig .tc := ⟨.hbm, 170, rfl⟩
abbrev main_c_27 : Ref sig .tc := ⟨.hbm, 171, rfl⟩
abbrev main_v100 : Ref sig .tc := ⟨.hbm, 172, rfl⟩
abbrev main_v101 : Ref sig .tc := ⟨.hbm, 173, rfl⟩
abbrev main_c_28 : Ref sig .tc := ⟨.hbm, 174, rfl⟩
abbrev main_c_29 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_v102 : Ref sig .tc := ⟨.hbm, 181, rfl⟩
abbrev main_c_30 : Ref sig .tc := ⟨.hbm, 182, rfl⟩
abbrev main_v103 : Ref sig .tc := ⟨.hbm, 183, rfl⟩
abbrev main_v104 : Ref sig .tc := ⟨.hbm, 184, rfl⟩
abbrev main_c_31 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_c_32 : Ref sig .tc := ⟨.hbm, 191, rfl⟩
abbrev main_v110 : Ref sig .tc := ⟨.hbm, 192, rfl⟩
abbrev main_v111 : Ref sig .tc := ⟨.hbm, 193, rfl⟩
abbrev main_c_33 : Ref sig .tc := ⟨.hbm, 194, rfl⟩
abbrev main_v112 : Ref sig .tc := ⟨.hbm, 195, rfl⟩
abbrev main_v113 : Ref sig .tc := ⟨.hbm, 196, rfl⟩
abbrev main_c_34 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_c_35 : Ref sig .tc := ⟨.hbm, 203, rfl⟩
abbrev main_v119 : Ref sig .tc := ⟨.hbm, 204, rfl⟩
abbrev main_v120 : Ref sig .tc := ⟨.hbm, 205, rfl⟩
abbrev main_c_36 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_c_37 : Ref sig .tc := ⟨.hbm, 212, rfl⟩
abbrev main_v126 : Ref sig .tc := ⟨.hbm, 213, rfl⟩
abbrev main_v127 : Ref sig .tc := ⟨.hbm, 214, rfl⟩
abbrev main_c_38 : Ref sig .tc := ⟨.hbm, 215, rfl⟩
abbrev main_v128 : Ref sig .tc := ⟨.hbm, 216, rfl⟩
abbrev main_v129 : Ref sig .tc := ⟨.hbm, 217, rfl⟩
abbrev main_c_39 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_cst_40 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_cst_41 : Ref sig .tc := ⟨.hbm, 238, rfl⟩
abbrev main_v148 : Ref sig .tc := ⟨.hbm, 239, rfl⟩
abbrev main_v149 : Ref sig .tc := ⟨.hbm, 240, rfl⟩

abbrev nD : Nat := 1
abbrev τ : Topo := Topo.v7x

variable {F : FTy → Type} [FloatOps F]
-- ==== Proof.Segments.lean ====
module

public import Idealize.ShloMosaic.Lib.IdealHost
public import Idealize.ShloMosaic.Lib.Pointwise

/-! # One edge of the network over the extended reals

A piecewise-linear function of sixteen knots `pos` and values `val`, read at a point `q`: the kernel's form (a chain
of selections over the segments, `chain`) and the reference's (the segment found by counting the knots below the
point, `slot`). They agree where the knots are sorted and the point is none of the inner knots. -/

@[expose] public section

open Idealize.ShloMosaic

namespace Pwl

/-- The small number added to a segment's length before the division. -/
noncomputable abbrev eps : EReal := Ideal.ofBits .f32 0x2B8CBCCC#32

/-- The length of the period. -/
noncomputable abbrev two : EReal := Ideal.ofBits .f32 0x40000000#32

/-- The left end of the period. -/
noncomputable abbrev low : EReal := Ideal.ofBits .f32 0xBF800000#32

/-- The number added to a segment's length is positive. -/
theorem eps_pos : (0 : EReal) < eps := by
  have h : eps = (((9223372 : ℝ) * 2 ^ (-63 : ℤ) : ℝ) : EReal) := by
    simp [Ideal.ofBits, Ideal.ieee, -EReal.coe_mul]
  rw [h]
  exact EReal.coe_pos.2 (by positivity)

/-- The `n`-th of sixteen numbers. -/
abbrev nth (f : Fin 16 → EReal) (n : ℕ) : EReal := f (Fin.ofNat 16 n)

/-- Segment `n` extended to a line, with the slope divided out first. -/
noncomputable def line (pos val : Fin 16 → EReal) (q : EReal) (n : ℕ) : EReal :=
  nth val n + (q - nth pos n) * Ideal.div (nth val (n + 1) - nth val n) (nth pos (n + 1) - nth pos n + eps)

/-- Segment `n` extended to a line, with the point's share of the segment divided out first. -/
noncomputable def blend (pos val : Fin 16 → EReal) (q : EReal) (n : ℕ) : EReal :=
  nth val n + Ideal.div (q - nth pos n) (nth pos (n + 1) - nth pos n + eps) * (nth val (n + 1) - nth val n)

/-- The last of the segments up to `n` whose left knot is not above the point, by selections from the first on. -/
noncomputable def chain (pos val : Fin 16 → EReal) (q : EReal) : ℕ → EReal
  | 0 => line pos val q 0
  | n + 1 => if nth pos (n + 1) ≤ q then line pos val q (n + 1) else chain pos val q n

/-- The number of knots strictly below the point. -/
noncomputable def below (pos : Fin 16 → EReal) (q : EReal) : ℕ := (Finset.univ.filter fun k => pos k < q).card

/-- The segment the reference reads. -/
noncomputable def slot (pos : Fin 16 → EReal) (q : EReal) : ℕ := min (below pos q - 1) 14

/-- There are at most sixteen knots below the point. -/
theorem below_le (pos : Fin 16 → EReal) (q : EReal) : below pos q ≤ 16 :=
  (Finset.card_le_univ _).trans_eq (Fintype.card_fin 16)

/-- The segment is one of the fifteen. -/
theorem slot_le (pos : Fin 16 → EReal) (q : EReal) : slot pos q ≤ 14 := min_le_right _ _

/-- A segment's padded length is not zero when its knots are in order: it is at least `eps`, or it is −∞. -/
theorem gap_ne_zero {a b : EReal} (h : a ≤ b) : b - a + eps ≠ 0 := by
  by_cases hb : b - a = ⊥
  · rw [hb, EReal.bot_add]
    exact EReal.bot_ne_zero
  · have h0 : 0 ≤ b - a := by
      induction a <;> induction b <;> first
        | exact absurd rfl hb
        | exact (EReal.sub_nonneg (by simp) (by simp)).2 h
        | simp_all
    exact (lt_of_lt_of_le eps_pos (le_add_of_nonneg_left h0)).ne'

/-- Over the extended reals it does not matter which of the two factors the padded length divides. -/
theorem line_eq_blend {pos : Fin 16 → EReal} (val : Fin 16 → EReal) (q : EReal) {n : ℕ} (h : nth pos n ≤ nth pos (n + 1)) :
    line pos val q n = blend pos val q n := by
  unfold line blend Ideal.div
  rw [if_neg (gap_ne_zero h), if_neg (gap_ne_zero h)]
  congr 1
  rw [mul_left_comm, mul_comm]

/-- The chain up to `m` picks a segment whose left knot is not above the point (or the first), all later left knots
being above it. -/
theorem chain_picks (pos val : Fin 16 → EReal) (q : EReal) (m : ℕ) :
    ∃ n ≤ m, (n = 0 ∨ nth pos n ≤ q) ∧ (∀ k, n < k → k ≤ m → q < nth pos k) ∧ chain pos val q m = line pos val q n := by
  induction m with
  | zero => exact ⟨0, le_rfl, Or.inl rfl, fun k h h' => absurd h (by omega), rfl⟩
  | succ m ih =>
    by_cases h : nth pos (m + 1) ≤ q
    · exact ⟨m + 1, le_rfl, Or.inr h, fun k a b => absurd a (by omega), if_pos h⟩
    · obtain ⟨n, hn, h1, h2, h3⟩ := ih
      refine ⟨n, by omega, h1, fun k a b => ?_, (if_neg h).trans h3⟩
      rcases Nat.lt_or_ge m k with c | c
      · obtain rfl : k = m + 1 := by omega
        exact not_le.1 h
      · exact h2 k a c

/-- The picked segment is the counted one, where the knots are sorted and the point is off the inner knots. -/
theorem slot_of_picks {pos : Fin 16 → EReal} {q : EReal} (hs : Monotone pos) (hq : ∀ n < 14, q ≠ nth pos (n + 1)) {n : ℕ}
    (hn : n ≤ 14) (h1 : n = 0 ∨ nth pos n ≤ q) (h2 : ∀ k, n < k → k ≤ 14 → q < nth pos k) : slot pos q = n := by
  have hval : ∀ k, k < 16 → (Fin.ofNat 16 k).val = k := fun k hk => Nat.mod_eq_of_lt hk
  have hlt : n ≠ 0 → nth pos n < q := fun h0 => by
    refine lt_of_le_of_ne (h1.resolve_left h0) ?_
    have := hq (n - 1) (by omega)
    rw [Nat.sub_add_cancel (by omega)] at this
    exact this.symm
  have hup : n < 14 → below pos q ≤ n + 1 := fun h => by
    have hsub : (Finset.univ.filter fun k => pos k < q) ⊆ Finset.Iic (Fin.ofNat 16 n) := fun k hk => by
      have hk := (Finset.mem_filter.1 hk).2
      rw [Finset.mem_Iic, Fin.le_def, hval n (by omega)]
      by_contra hc
      refine absurd (hk.trans (h2 (n + 1) (by omega) (by omega))) (not_lt.2 (hs ?_))
      rw [Fin.le_def, hval (n + 1) (by omega)]
      omega
    refine (Finset.card_le_card hsub).trans_eq ?_
    rw [Fin.card_Iic, hval n (by omega)]
  have hlo : n ≠ 0 → n + 1 ≤ below pos q := fun h => by
    have hsub : Finset.Iic (Fin.ofNat 16 n) ⊆ (Finset.univ.filter fun k => pos k < q) := fun k hk =>
      Finset.mem_filter.2 ⟨Finset.mem_univ _, lt_of_le_of_lt (hs (Finset.mem_Iic.1 hk)) (hlt h)⟩
    refine le_trans (le_of_eq ?_) (Finset.card_le_card hsub)
    rw [Fin.card_Iic, hval n (by omega)]
  unfold slot
  by_cases h0 : n = 0
  · have := hup (by omega)
    omega
  · have := hlo h0
    by_cases h14 : n < 14
    · have := hup h14
      omega
    · omega

/-- **One edge.** Where the knots are sorted and the point is none of the inner knots, the kernel's chain of selections
over the fifteen segments is the reference's segment. -/
theorem chain_eq_blend {pos : Fin 16 → EReal} (val : Fin 16 → EReal) {q : EReal} (hs : Monotone pos)
    (hq : ∀ n < 14, q ≠ nth pos (n + 1)) : chain pos val q 14 = blend pos val q (slot pos q) := by
  obtain ⟨n, hn, h1, h2, h3⟩ := chain_picks pos val q 14
  rw [h3, slot_of_picks hs hq hn h1 h2]
  refine line_eq_blend val q (hs ?_)
  rw [Fin.le_def]
  show n % 16 ≤ (n + 1) % 16
  omega

end Pwl

end
-- ==== Proof.Wrap.lean ====
module

public import proofs.«01_k».proof.Proof.Segments

/-! # The anti-periodic extension over the extended reals

The argument is moved into one period and the result takes the sign of the period it came from. The sign is read off
the remainder of the period's number by two, made non-negative; both programs print that remainder as a selection over
comparison bits. -/

@[expose] public section

open Idealize.ShloMosaic

namespace Pwl

/-- The number of the period the argument lies in. -/
noncomputable def period (x : EReal) : EReal := Ideal.liftRound Int.floor (Ideal.div (x - low) two)

/-- The argument moved into the first period. -/
noncomputable def wrap (x : EReal) : EReal := x - period x * two

/-- A remainder by two made non-negative. -/
noncomputable def nonneg (r : EReal) : EReal := if r < 0 then r + two else r

/-- The sign of the period: one for an even number, minus one for an odd one. -/
noncomputable def sgn (x : EReal) : EReal := 1 - two * nonneg (Ideal.remf (period x) two)

/-- Two is not negative. -/
theorem two_not_neg : ¬ two < 0 := by
  have h : two = ((2 : ℝ) : EReal) := by
    simp [Ideal.ofBits, Ideal.ieee, -EReal.coe_mul]
    norm_num
  rw [h]
  exact not_lt.2 (EReal.coe_nonneg.2 (by norm_num))

/-- The selection over an exclusive or of the two sign bits is the remainder made non-negative. -/
theorem nonneg_xori (r : EReal) :
    Scalar.select (IntOp.andi (IntOp.xori (BitVec.ofBool (decide (r < 0))) (BitVec.ofBool (decide (two < 0))))
      (BitVec.ofBool (decide (r ≠ 0)))) (r + two) r = nonneg r := by
  unfold nonneg
  rw [decide_eq_false two_not_neg]
  by_cases h : r < 0
  · rw [if_pos h, decide_eq_true h, decide_eq_true h.ne]
    rfl
  · rw [if_neg h, decide_eq_false h]
    by_cases h0 : r ≠ 0
    · rw [decide_eq_true h0]
      rfl
    · rw [decide_eq_false h0]
      rfl

/-- The selection over the two sign bits being unequal is the remainder made non-negative. -/
theorem nonneg_ne (r : EReal) :
    Scalar.select (IntOp.andi (IntOp.cmpi .ne (BitVec.ofBool (decide (r < 0))) (BitVec.ofBool (decide (two < 0))))
      (BitVec.ofBool (decide (r ≠ 0)))) (r + two) r = nonneg r := by
  rw [← nonneg_xori, decide_eq_false two_not_neg]
  congr 2
  cases decide (r < 0) <;> rfl

/-- The sign as the reference prints it, of a remainder `r` and a divisor `t`. -/
theorem sgn_of {r t x : EReal} (hr : r = Ideal.remf (period x) two) (ht : t = two) :
    1 - two * Scalar.select (IntOp.andi (IntOp.cmpi .ne (BitVec.ofBool (decide (r < 0))) (BitVec.ofBool (decide (t < 0))))
      (BitVec.ofBool (decide (r ≠ 0)))) (r + t) r = sgn x := by
  subst hr ht
  exact congrArg (fun z => 1 - two * z) (nonneg_ne _)

/-- A segment as the reference prints it, of what it gathered. -/
theorem blend_of {pos val : Fin 16 → EReal} {q : EReal} {n : ℕ} {a c d e f : EReal} (ha : a = nth val n) (hc : c = q)
    (hd : d = nth pos n) (he : e = nth pos (n + 1)) (hf : f = nth val (n + 1)) :
    a + Ideal.div (c - d) (e - d + eps) * (f - a) = blend pos val q n := by
  subst ha hc hd he hf
  rfl

end Pwl

end
-- ==== Proof.Node.lean ====
module

public import proofs.«01_k».proof.Proof.Wrap

/-! # One output of one layer

The sum over the sixty-four inputs of the edge's value at the wrapped input, times the input's sign; once with the
kernel's edges and once with the reference's. -/

@[expose] public section

open Idealize.ShloMosaic

namespace Pwl

/-- The kernel's sum over the inputs: each edge by selections over its segments. -/
noncomputable def chainNode (pos val : Fin 64 → Fin 16 → EReal) (x : Fin 64 → EReal) : EReal :=
  ∑ i, chain (pos i) (val i) (wrap (x i)) 14 * sgn (x i)

/-- The reference's sum over the inputs: each edge on the segment found by counting. -/
noncomputable def blendNode (pos val : Fin 64 → Fin 16 → EReal) (x : Fin 64 → EReal) : EReal :=
  ∑ i, blend (pos i) (val i) (wrap (x i)) (slot (pos i) (wrap (x i))) * sgn (x i)

/-- No wrapped input equals an inner knot of its edge. -/
def OffKnots (pos : Fin 64 → Fin 16 → EReal) (x : Fin 64 → EReal) : Prop :=
  ∀ i, ∀ n < 14, wrap (x i) ≠ nth (pos i) (n + 1)

/-- The two sums agree where every edge's knots are sorted and no wrapped input equals an inner knot of its edge. -/
theorem chainNode_eq {pos : Fin 64 → Fin 16 → EReal} (val : Fin 64 → Fin 16 → EReal) {x : Fin 64 → EReal}
    (hs : ∀ i, Monotone (pos i)) (hx : OffKnots pos x) : chainNode pos val x = blendNode pos val x :=
  Finset.sum_congr rfl fun i _ => by rw [chain_eq_blend (val i) (hs i) (hx i)]

end Pwl

end
-- ==== Proof.Layout.lean ====
module

public import Idealize.ShloMosaic.Lib.Pointwise
public import Idealize.ShloMosaic.Lib.Pipeline.Value
public import Idealize.ShloMosaic.Lib.IndicatorCount
public import Idealize.ShloMosaic.Lib.Routing.Words
public import Idealize.ShloMosaic.Lib.WordCmp

/-! # Reading layouts at an index

What a row of copies, a gather along the rows and a floor division of indices hold at one index, whatever the
element type and the extents. -/

@[expose] public section

open Idealize.ShloMosaic

namespace Pwl

/-- Side-by-side copies of one matrix, read at a column: the matrix at the column modulo its width. -/
theorem copies_apply {α : Type} {R W C : ℕ} (N : ℕ) (hW : 0 < W) (v : (⟨2, ![R, W]⟩ : Shape).Idx → α)
    {xs : List ((s : Shape) × (s.Idx → α))} (hxs : xs = List.replicate N ⟨⟨2, ![R, W]⟩, v⟩)
    (hc : Shape.Concatenates (xs.map (·.1)) ⟨2, ![R, C]⟩ 1) (r : Fin R) (j : Fin C) :
    concatenate ⟨2, ![R, C]⟩ 1 xs hc (ix2 r j) = v (ix2 r ⟨j.val % W, Nat.mod_lt _ hW⟩) := by
  subst hxs
  refine concatenate_replicate_apply (t := ⟨2, ![R, C]⟩) (1 : Fin 2) N v hc rfl (ix2 r j) (ix2 r ⟨j.val % W, Nat.mod_lt _ hW⟩) rfl ?_
  intro b hb
  match b, hb with
  | ⟨0, _⟩, _ => rfl
  | ⟨1, _⟩, h => exact absurd rfl h

/-- One column of each row, the rows being a batch: the gather's dimension numbers. -/
abbrev pickDims (R C B : ℕ)
    (wf : GatherDims.WF ⟨2, ![R, C]⟩ ⟨3, ![R, B, 1]⟩ ⟨2, ![R, B]⟩ [] [1] [0] [1] [0] 2 ![1, 1]) :
    GatherDims ⟨2, ![R, C]⟩ ⟨3, ![R, B, 1]⟩ ⟨2, ![R, B]⟩ where
  offsetDims := []
  collapsedSliceDims := [1]
  operandBatchingDims := [0]
  startIndicesBatchingDims := [0]
  startIndexMap := [1]
  indexVectorDim := 2
  sliceSizes := ![1, 1]
  wf := wf

/-- The gather of one column of each row, read at an index: the row's element at the index word, taken signed and
clamped to the row. -/
theorem pick_apply {α : Type} {R C B w : ℕ} (hC : 0 < C)
    (wf : GatherDims.WF ⟨2, ![R, C]⟩ ⟨3, ![R, B, 1]⟩ ⟨2, ![R, B]⟩ [] [1] [0] [1] [0] 2 ![1, 1])
    (x : (⟨2, ![R, C]⟩ : Shape).Idx → α) (idx : IVec ⟨3, ![R, B, 1]⟩ w) (k : Fin R) (b : Fin B) :
    Host.gather (pickDims R C B wf) x idx (ix2 k b)
      = x (ix2 k ⟨min (idx (ix3 k b 0)).toInt.toNat (C - 1), by omega⟩) := by
  unfold Host.gather
  congr 1
  funext a
  refine Fin.ext ?_
  show (pickDims R C B wf).start (ix2 k b) idx a + (pickDims R C B wf).batchCoord (ix2 k b) a
      + (pickDims R C B wf).offCoord (ix2 k b) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (pickDims R C B wf).startIndexMap from List.mem_singleton.mpr rfl)]
    have hsi : (pickDims R C B wf).siIdx (ix2 k b) ⟨List.idxOf (1 : Fin 2) (pickDims R C B wf).startIndexMap,
        List.idxOf_lt_length_iff.2 (List.mem_singleton.mpr rfl)⟩ = ix3 k b 0 := by
      funext c
      refine Fin.ext ?_
      match c with
      | ⟨0, _⟩ => rfl
      | ⟨1, _⟩ => rfl
      | ⟨2, _⟩ => rfl
    rw [hsi]
    rfl

/-- The floor division of a word by a positive word as a select over the two signs and the remainder. -/
def floorDiv (x d : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The floor division by 64 of the word of a natural number below 4096 is the word of the quotient. -/
theorem floorDiv_word {a : ℕ} (ha : a < 4096) : floorDiv (BitVec.ofNat 32 a) 64#32 = BitVec.ofNat 32 (a / 64) := by
  unfold floorDiv
  rw [show (64#32 : BitVec 32) = BitVec.ofNat 32 64 from rfl, Routing.remsi_word .vector (by omega) (by omega) (by omega),
    Routing.divsi_word .vector (by omega) (by omega) (by omega)]
  have hs : IntOp.cmpi .slt (BitVec.ofNat 32 a) 0#32 = 0#1 := by
    rw [show (0#32 : BitVec 32) = BitVec.ofNat 32 0 from rfl, WordCmp.cmpi_slt_ofNat (by omega) (by omega)]
    rfl
  rcases Nat.eq_zero_or_pos a with rfl | h0
  · decide
  · have hg : IntOp.cmpi .sgt (BitVec.ofNat 32 a) 0#32 = 1#1 := by
      rw [show (0#32 : BitVec 32) = BitVec.ofNat 32 0 from rfl, WordCmp.cmpi_sgt_ofNat (by omega) (by omega), decide_eq_true h0]
      rfl
    rw [hs, hg]
    have e : ∀ c : BitVec 1, IntOp.andi (IntOp.cmpi .ne (IntOp.subi (BitVec.setWidth 32 1#1) (BitVec.setWidth 32 0#1))
        (Scalar.subi (Scalar.extui (Scalar.cmpi .sgt (BitVec.ofNat 32 64) 0#32)) (Scalar.extui (Scalar.cmpi .slt (BitVec.ofNat 32 64) 0#32)))) c = 0#1 := by
      decide
    rw [e]
    rfl

/-- A sum over `M` groups of 64, of which only group `o` counts, is the sum over that group. -/
theorem sum_group {M : ℕ} (f : Fin (M * 64) → EReal) (o : Fin M) :
    (∑ k : Fin (M * 64), f k * (if k.val / 64 = o.val then 1 else 0))
      = ∑ i : Fin 64, f ⟨o.val * 64 + i.val, by have := o.isLt; have := i.isLt; nlinarith⟩ := by
  rw [← finProdFinEquiv.sum_comp, Fintype.sum_prod_type, Finset.sum_eq_single o]
  · refine Finset.sum_congr rfl fun i _ => ?_
    have hk : (finProdFinEquiv (o, i)).val = o.val * 64 + i.val := by
      show i.val + 64 * o.val = _
      omega
    rw [hk, if_pos (by have := i.isLt; omega), mul_one]
    exact congrArg f (Fin.ext hk)
  · intro p _ hp
    refine Finset.sum_eq_zero fun i _ => ?_
    have hk : (finProdFinEquiv (p, i)).val = p.val * 64 + i.val := by
      show i.val + 64 * p.val = _
      omega
    rw [hk, if_neg (fun h => hp (Fin.ext (by have := i.isLt; omega))), mul_zero]
  · exact fun h => absurd (Finset.mem_univ _) h

/-- The clamped index word: the count less one, between 0 and 14. -/
theorem clamp_word {n : ℕ} (hn : n ≤ 16) :
    IntOp.minsi 14#32 (IntOp.maxsi 0#32 (IntOp.subi (BitVec.ofNat 32 n) 1#32)) = BitVec.ofNat 32 (min (n - 1) 14) := by
  have h : ∀ n : Fin 17, IntOp.minsi 14#32 (IntOp.maxsi 0#32 (IntOp.subi (BitVec.ofNat 32 n.val) 1#32))
      = BitVec.ofNat 32 (min (n.val - 1) 14) := by decide
  exact h ⟨n, by omega⟩

/-- An index word below sixteen is not negative, so counting from the end does not change it, and it is its number. -/
theorem index_word {n : ℕ} (hn : n ≤ 15) :
    min (Scalar.select (IntOp.cmpi .slt (BitVec.ofNat 32 n) 0#32) (IntOp.addi (BitVec.ofNat 32 n) 16#32)
      (BitVec.ofNat 32 n)).toInt.toNat 15 = n := by
  have h : ∀ n : Fin 16, min (Scalar.select (IntOp.cmpi .slt (BitVec.ofNat 32 n.val) 0#32)
      (IntOp.addi (BitVec.ofNat 32 n.val) 16#32) (BitVec.ofNat 32 n.val)).toInt.toNat 15 = n.val := by decide
  exact h ⟨n, by omega⟩

/-- The bit of a decided proposition is 1 exactly when the proposition holds. -/
theorem bit_iff (p : Prop) [Decidable p] : BitVec.ofBool (decide p) = 1#1 ↔ p := by
  by_cases h : p
  · rw [decide_eq_true h]
    exact iff_of_true rfl h
  · rw [decide_eq_false h]
    exact iff_of_false (by decide) h

end Pwl

end
-- ==== Proof.Hidden.lean ====
module

public import proofs.«01_k».proof.Proof.Gen.KernelIdeal.Frame
public import proofs.«01_k».proof.Proof.Node
public import proofs.«01_k».proof.Proof.Layout

/-! # The kernel's first layer on one block, at an index

Column `64 o + i` of the flattened knots belongs to the edge from input `i` to output `o`; the wrapped inputs and
signs stand side by side in sixty-four copies; and the sum over a group of sixty-four columns is a product with a
matrix of zeros and ones. -/

@[expose] public section

set_option maxRecDepth 16384

open Idealize.ShloMosaic
open Cert.KernelIdeal Cert.KernelIdeal.Gen

namespace Pwl

/-- Sixty-four copies of a block side by side. -/
theorem tile64 (v : FVec Ideal S256x64 .f32) (r : Fin 256) (j : Fin 4096) :
    concatenate S256x4096 1 (List.replicate 64 (⟨S256x64, v⟩ : (s : Shape) × (s.Idx → Ideal .f32)))
      concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x4096_d1
      (ix2 r j) = v (ix2 r ⟨j.val % 64, Nat.mod_lt _ (by decide)⟩) :=
  copies_apply 64 (by decide) v rfl _ r j

/-- Thirty-two copies of a block side by side. -/
theorem tile32 (v : FVec Ideal S256x64 .f32) (r : Fin 256) (j : Fin 2048) :
    concatenate S256x2048 1 (List.replicate 32 (⟨S256x64, v⟩ : (s : Shape) × (s.Idx → Ideal .f32)))
      concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x2048_d1
      (ix2 r j) = v (ix2 r ⟨j.val % 64, Nat.mod_lt _ (by decide)⟩) :=
  copies_apply 32 (by decide) v rfl _ r j

/-- An entry of the matrix of zeros and ones: one where the row's group is the column. -/
theorem group_entry {k o : ℕ} (hk : k < 4096) (ho : o < 64) :
    FloatOps.sitofp (F := Ideal) .f32
      (BitVec.setWidth 32 (IntOp.cmpi .eq (floorDiv (BitVec.ofNat 32 k) 64#32) (BitVec.ofNat 32 o)))
      = if k / 64 = o then 1 else 0 := by
  rw [floorDiv_word hk, WordCmp.cmpi_eq_ofNat (by omega) (by omega)]
  by_cases h : k / 64 = o
  · rw [if_pos h, decide_eq_true h]
    show (((1 : ℤ) : ℝ) : EReal) = 1
    norm_num
  · rw [if_neg h, decide_eq_false h]
    show (((0 : ℤ) : ℝ) : EReal) = 0
    norm_num

section
variable (x0 : Vec Ideal S256x64 .f32) (x1 x2 : Vec Ideal S16x4096 .f32) (x3 x4 : Vec Ideal S16x2048 .f32)

/-- The copies of the wrapped inputs. -/
theorem wrapped_apply (r : Fin 256) (j : Fin 4096) :
    k0_pay88 (F := Ideal) x0 x1 x2 x3 x4 (ix2 r j) = wrap (x0 (ix2 r ⟨j.val % 64, Nat.mod_lt _ (by decide)⟩)) := by
  refine (tile64 _ r j).trans ?_
  pointwise [k0_pay4]
  rfl

/-- The copies of the signs. -/
theorem signs_apply (r : Fin 256) (j : Fin 4096) :
    k0_pay89 (F := Ideal) x0 x1 x2 x3 x4 (ix2 r j) = sgn (x0 (ix2 r ⟨j.val % 64, Nat.mod_lt _ (by decide)⟩)) := by
  refine (tile64 _ r j).trans ?_
  pointwise [k0_pay4]
  exact congrArg (fun z => 1 - two * z) (nonneg_xori _)

/-- The edges' values before the signs: at each column the chain of selections over its knots. -/
theorem chain_apply (r : Fin 256) (j : Fin 4096) :
    k0_pay92 (F := Ideal) x0 x1 x2 x3 x4 (ix2 r j)
      = chain (fun k => x1 (ix2 k j)) (fun k => x2 (ix2 k j)) (k0_pay88 (F := Ideal) x0 x1 x2 x3 x4 (ix2 r j)) 14 := by
  unfold k0_pay92 k0_pay86 k0_pay87
  generalize k0_pay88 (F := Ideal) x0 x1 x2 x3 x4 = q
  pointwise [k0_pay2, k0_pay3, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42]
  simp only [chain, line, nth, Nat.reduceAdd, Nat.zero_add, eps]
  rfl

/-- The first layer's block. -/
noncomputable def hidden : FVec Ideal S256x64 .f32 :=
  k0_pay43 (k0_pay89 (F := Ideal) x0 x1 x2 x3 x4) (k0_pay92 x0 x1 x2 x3 x4) (k0_pay90 (F := Ideal) x0 x1 x2 x3 x4)
    (k0_pay91 (F := Ideal) x0 x1 x2 x3 x4)

/-- The column of the edge from input `i` to output `o`, of `M` outputs. -/
abbrev col {M : ℕ} (o : Fin M) (i : Fin 64) : Fin (M * 64) :=
  ⟨o.val * 64 + i.val, by have := o.isLt; have := i.isLt; nlinarith⟩

/-- **The first layer on one block**: each element sums, over the inputs of its row, the edge's chain times the sign. -/
theorem hidden_apply (r : Fin 256) (o : Fin 64) :
    hidden x0 x1 x2 x3 x4 (ix2 r o)
      = chainNode (fun i k => x1 (ix2 k (col o i))) (fun i k => x2 (ix2 k (col o i))) (fun i => x0 (ix2 r i)) := by
  have h : hidden x0 x1 x2 x3 x4 (ix2 r o) = ∑ k : Fin (64 * 64),
      (k0_pay92 (F := Ideal) x0 x1 x2 x3 x4 (ix2 r k) * k0_pay89 (F := Ideal) x0 x1 x2 x3 x4 (ix2 r k))
        * (if k.val / 64 = o.val then 1 else 0) := by
    unfold hidden k0_pay43 k0_pay90 k0_pay91
    generalize k0_pay92 (F := Ideal) x0 x1 x2 x3 x4 = a
    generalize k0_pay89 (F := Ideal) x0 x1 x2 x3 x4 = b
    pointwise []
    exact Finset.sum_congr rfl fun k _ => congrArg (_ * ·) (group_entry k.isLt o.isLt)
  rw [h, sum_group]
  refine Finset.sum_congr rfl fun i _ => ?_
  have e : (⟨(col o i).val % 64, Nat.mod_lt _ (by decide)⟩ : Fin 64) = i := Fin.ext (by
    show (o.val * 64 + i.val) % 64 = i.val
    have := i.isLt
    omega)
  rw [chain_apply, signs_apply, wrapped_apply, e]

end

end Pwl

end
-- ==== Proof.Block.lean ====
module

public import proofs.«01_k».proof.Proof.Hidden

/-! # What one block of the kernel computes

The second layer reads the first layer's block as the first reads the input, with thirty-two outputs. -/

@[expose] public section

set_option maxRecDepth 16384

open Idealize.ShloMosaic
open Cert.KernelIdeal Cert.KernelIdeal.Gen

namespace Pwl

section
variable (x0 : Vec Ideal S256x64 .f32) (x1 x2 : Vec Ideal S16x4096 .f32) (x3 x4 : Vec Ideal S16x2048 .f32)

/-- The copies of the second layer's wrapped inputs. -/
theorem wrapped2_apply (r : Fin 256) (j : Fin 2048) :
    k0_pay95 (F := Ideal) x0 x1 x2 x3 x4 (ix2 r j)
      = wrap (hidden x0 x1 x2 x3 x4 (ix2 r ⟨j.val % 64, Nat.mod_lt _ (by decide)⟩)) := by
  refine (tile32 _ r j).trans ?_
  show k0_pay47 (F := Ideal) _ _ _ _ _ = _
  unfold k0_pay47 k0_pay46
  change subf (hidden x0 x1 x2 x3 x4) (mulf (floor (divf (subf (hidden x0 x1 x2 x3 x4) _) _)) _) _ = _
  generalize hidden x0 x1 x2 x3 x4 = h
  pointwise []
  rfl

/-- The copies of the second layer's signs. -/
theorem signs2_apply (r : Fin 256) (j : Fin 2048) :
    k0_pay50 (F := Ideal) (Scalar.ofBits .f32 0x40000000#32)
        (k0_pay48 (k0_pay89 x0 x1 x2 x3 x4) (k0_pay92 x0 x1 x2 x3 x4) (k0_pay90 (F := Ideal) x0 x1 x2 x3 x4)
          (k0_pay91 (F := Ideal) x0 x1 x2 x3 x4)) (Scalar.ofBits .f32 0x00000000#32) (ix2 r j)
      = sgn (hidden x0 x1 x2 x3 x4 (ix2 r ⟨j.val % 64, Nat.mod_lt _ (by decide)⟩)) := by
  unfold k0_pay48 k0_pay46
  change k0_pay50 _ (remf (floor (divf (subf (hidden x0 x1 x2 x3 x4) _) _)) _) _ _ = _
  generalize hidden x0 x1 x2 x3 x4 = h
  refine (tile32 _ r j).trans ?_
  pointwise []
  exact congrArg (fun z => 1 - two * z) (nonneg_xori _)

/-- **One block**: each element sums, over the first layer's outputs of its row, the edge's chain times the sign. -/
theorem block_apply (r : Fin 256) (o : Fin 32) :
    out0_5 x0 x1 x2 x3 x4 (ix2 r o)
      = chainNode (fun i k => x3 (ix2 k (col o i))) (fun i k => x4 (ix2 k (col o i)))
          (fun i => hidden x0 x1 x2 x3 x4 (ix2 r i)) := by
  have h : out0_5 x0 x1 x2 x3 x4 (ix2 r o) = ∑ k : Fin (32 * 64),
      (chain (fun n => x3 (ix2 n k)) (fun n => x4 (ix2 n k)) (k0_pay95 (F := Ideal) x0 x1 x2 x3 x4 (ix2 r k)) 14
        * sgn (hidden x0 x1 x2 x3 x4 (ix2 r ⟨k.val % 64, Nat.mod_lt _ (by decide)⟩)))
        * (if k.val / 64 = o.val then 1 else 0) := by
    have hs := signs2_apply x0 x1 x2 x3 x4 r
    have hz : (![0, 0] : Fin 2 → ℕ) = fun _ => 0 := by decide
    unfold out0_5
    rw [View.canon_unit_zero hz]
    unfold k0_pay93 k0_pay94
    generalize k0_pay50 (F := Ideal) (Scalar.ofBits .f32 0x40000000#32)
        (k0_pay48 (k0_pay89 x0 x1 x2 x3 x4) (k0_pay92 x0 x1 x2 x3 x4) (k0_pay90 (F := Ideal) x0 x1 x2 x3 x4)
          (k0_pay91 (F := Ideal) x0 x1 x2 x3 x4)) (Scalar.ofBits .f32 0x00000000#32) = s at hs ⊢
    generalize k0_pay95 (F := Ideal) x0 x1 x2 x3 x4 = q
    pointwise [k0_pay1, k0_pay44, k0_pay45, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82,
      k0_pay83, k0_pay84, k0_pay85]
    refine Finset.sum_congr rfl fun k _ => ?_
    rw [hs]
    refine congrArg₂ (· * ·) (congrArg (· * _) ?_) (group_entry (by have := k.isLt; omega) (by have := o.isLt; omega))
    simp only [chain, line, nth, Nat.reduceAdd, Nat.zero_add, eps]
    rfl
  rw [h, sum_group]
  refine Finset.sum_congr rfl fun i _ => ?_
  have e : (⟨(col o i).val % 64, Nat.mod_lt _ (by decide)⟩ : Fin 64) = i := Fin.ext (by
    show (o.val * 64 + i.val) % 64 = i.val
    have := i.isLt
    omega)
  rw [wrapped2_apply, e]

end

end Pwl

end
-- ==== Proof.Array.lean ====
module

public import proofs.«01_k».proof.Proof.Gen.KernelIdeal.Value
public import Idealize.ShloMosaic.Lib.Pipeline.ValueKit
public import Idealize.ShloMosaic.Lib.Claim
public import proofs.«01_k».proof.Proof.Block

/-! # What the kernel's result array holds

Grid point `t` computes rows `256 t` to `256 t + 255` of the result from the same rows of the inputs and from the whole
transposed knot and value arrays. -/

@[expose] public section

set_option maxRecDepth 16384

open Idealize.ShloMosaic Idealize.ShloMosaic.TcCoe
open Cert.KernelIdeal Cert.KernelIdeal.Gen Cert.KernelIdeal.Value

namespace Pwl

section
variable (m : (ℓ : Loc nD τ sig) → Buf (Elt Ideal) ℓ) (c : Dev nD)

/-- The inputs. -/
abbrev kX : S4096x64.Idx → EReal := m ((c : Thread nD τ).loc main_arg0)
/-- The first layer's knots. -/
abbrev kP1 : S64x64x16.Idx → EReal := m ((c : Thread nD τ).loc main_arg1)
/-- The first layer's values. -/
abbrev kV1 : S64x64x16.Idx → EReal := m ((c : Thread nD τ).loc main_arg2)
/-- The second layer's knots. -/
abbrev kP2 : S64x32x16.Idx → EReal := m ((c : Thread nD τ).loc main_arg3)
/-- The second layer's values. -/
abbrev kV2 : S64x32x16.Idx → EReal := m ((c : Thread nD τ).loc main_arg4)

/-- The windows' block indices: the inputs' and the result's move with the point, the knots' and values' stand. -/
theorem index_at : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] := by
  decide +kernel

/-- Row `r` of point `t`'s block, in the whole array. -/
abbrev rowOf (t : Fin cfg0.N) (r : Fin 256) : Fin 4096 :=
  ⟨t.val * 256 + r.val, by have h : t.val < 16 := t.isLt; have := r.isLt; omega⟩

/-- The inputs' block. -/
theorem block_x (t : Fin cfg0.N) (r : Fin 256) (i : Fin 64) : iblk m c 0 t (ix2 r i) = kX m c (ix2 (rowOf t r) i) := by
  blk_ext [iblk, V, index_at t]

/-- The first layer's knots, as the body reads them. -/
theorem block_p1 (t : Fin cfg0.N) (k : Fin 16) (o i : Fin 64) :
    iblk m c 1 t (ix2 k (col o i)) = kP1 m c (ix3 i o k) := by
  blk_ext! [iblk, V, index_at t]

/-- The first layer's values, as the body reads them. -/
theorem block_v1 (t : Fin cfg0.N) (k : Fin 16) (o i : Fin 64) :
    iblk m c 2 t (ix2 k (col o i)) = kV1 m c (ix3 i o k) := by
  blk_ext! [iblk, V, index_at t]

/-- The second layer's knots, as the body reads them. -/
theorem block_p2 (t : Fin cfg0.N) (k : Fin 16) (o : Fin 32) (i : Fin 64) :
    iblk m c 3 t (ix2 k (col o i)) = kP2 m c (ix3 i o k) := by
  blk_ext! [iblk, V, index_at t]

/-- The second layer's values, as the body reads them. -/
theorem block_v2 (t : Fin cfg0.N) (k : Fin 16) (o : Fin 32) (i : Fin 64) :
    iblk m c 4 t (ix2 k (col o i)) = kV2 m c (ix3 i o k) := by
  blk_ext! [iblk, V, index_at t]

/-- The first layer's result, of the argument arrays: row `b`, output `o`, by the kernel's selections. -/
noncomputable def kHidden (b : Fin 4096) (o : Fin 64) : EReal :=
  chainNode (fun i k => kP1 m c (ix3 i o k)) (fun i k => kV1 m c (ix3 i o k)) (fun i => kX m c (ix2 b i))

/-- The result, of the argument arrays: row `b`, output `o`, by the kernel's selections in both layers. -/
noncomputable def kOut (b : Fin 4096) (o : Fin 32) : EReal :=
  chainNode (fun i k => kP2 m c (ix3 i o k)) (fun i k => kV2 m c (ix3 i o k)) (kHidden m c b)

/-- What point `t` computes at row `r` of its block: the result's row `256 t + r`. -/
theorem block_value (t : Fin cfg0.N) (r : Fin 256) (o : Fin 32) :
    out0_5 (iblk m c 0 t) (iblk m c 1 t) (iblk m c 2 t) (iblk m c 3 t) (iblk m c 4 t) (ix2 r o) = kOut m c (rowOf t r) o := by
  refine (block_apply _ _ _ _ _ r o).trans ?_
  unfold kOut
  congr 1
  · exact funext fun i => funext fun k => block_p2 m c t k o i
  · exact funext fun i => funext fun k => block_v2 m c t k o i
  · funext o'
    refine (hidden_apply _ _ _ _ _ r o').trans ?_
    unfold kHidden
    congr 1
    · exact funext fun i => funext fun k => block_p1 m c t k o' i
    · exact funext fun i => funext fun k => block_v1 m c t k o' i
    · exact funext fun i => block_x m c t r i

/-- **The kernel's result array** after the run. -/
theorem array_value : (dats m 0 c).arrAt 5 cfg0.N = fun j : S4096x32.Idx => kOut m c (j 0) (j 1) := by
  refine (dats m 0 c).arrAt_eq_of_covers 5 _ (by decide +kernel) fun t _ y => ?_
  rw [after0_5]
  obtain ⟨r, o, rfl⟩ : ∃ (r : Fin 256) (o : Fin 32), y = ix2 r o := ⟨y 0, y 1, eq_ix2 y⟩
  refine (block_value m c t r o).trans ?_
  have e0 : ((((cfg0.win 5).blk t).view.emb (ix2 r o)) 0 : ℕ) = t.val * 256 + r.val := by
    blk_simp [index_at t]
  have e1 : ((((cfg0.win 5).blk t).view.emb (ix2 r o)) 1 : ℕ) = o.val := by
    blk_simp [index_at t]
  exact congrArg₂ (kOut m c) (Fin.ext e0.symm) (Fin.ext e1.symm)

end

end Pwl

end
-- ==== Proof.RefHidden.lean ====
module

public import proofs.«01_k».proof.Proof.Gen.ReferenceIdeal.Run
public import Idealize.ShloMosaic.Lib.Tactic.CleanTypes
public import proofs.«01_k».proof.Proof.Node
public import proofs.«01_k».proof.Proof.Layout

/-! # The reference's first layer, at an index

Row `64 i + o` of the flattened knots belongs to the edge from input `i` to output `o`. -/

@[expose] public section

set_option maxRecDepth 16384

open Idealize.ShloMosaic
open Cert.ReferenceIdeal Cert.ReferenceIdeal.Gen Cert.ReferenceIdeal.Value

namespace Pwl

/-- An array of extended reals, its shape stated. -/
abbrev vec (s : Shape) (v : FVec Ideal s .f32) : s.Idx → EReal := v

/-- An array of words, its shape stated. -/
abbrev veci (s : Shape) (v : IVec s 32) : s.Idx → BitVec 32 := v

/-- The row of the edge from input `i` to output `o`, of `M` outputs. -/
abbrev row {M : ℕ} (i : Fin 64) (o : Fin M) : Fin (64 * M) :=
  ⟨i.val * M + o.val, by have := i.isLt; have := o.isLt; nlinarith⟩

/-- The input of a row. -/
theorem row_div {M : ℕ} (i : Fin 64) (o : Fin M) (h : (i.val * M + o.val) / M < 64) : (⟨(i.val * M + o.val) / M, h⟩ : Fin 64) = i :=
  Fin.ext (by
    show (i.val * M + o.val) / M = i.val
    rw [Nat.mul_comm, Nat.mul_add_div (by have := o.isLt; omega), Nat.div_eq_of_lt o.isLt, Nat.add_zero])

/-- The output of a row. -/
theorem row_mod {M : ℕ} (i : Fin 64) (o : Fin M) (h : (i.val * M + o.val) % M < M) : (⟨(i.val * M + o.val) % M, h⟩ : Fin M) = o :=
  Fin.ext (by
    show (i.val * M + o.val) % M = o.val
    rw [Nat.mul_comm, Nat.mul_add_mod, Nat.mod_eq_of_lt o.isLt])

section
variable (V0 : Valuation τ sig (Elt Ideal))

/-- The inputs. -/
abbrev argX : S4096x64.Idx → EReal := vec S4096x64 (V0 (Proc.devRef .tc main_arg0))
/-- The first layer's knots. -/
abbrev argP1 : S64x64x16.Idx → EReal := vec S64x64x16 (V0 (Proc.devRef .tc main_arg1))
/-- The first layer's values. -/
abbrev argV1 : S64x64x16.Idx → EReal := vec S64x64x16 (V0 (Proc.devRef .tc main_arg2))
/-- The second layer's knots. -/
abbrev argP2 : S64x32x16.Idx → EReal := vec S64x32x16 (V0 (Proc.devRef .tc main_arg3))
/-- The second layer's values. -/
abbrev argV2 : S64x32x16.Idx → EReal := vec S64x32x16 (V0 (Proc.devRef .tc main_arg4))

/-- The gather over a layer's rows, the index counted from the end when negative: where the index word is that of a
number below sixteen, the row's element of that number. -/
theorem pick1 (x : FVec Ideal S4096x16 .f32) (w : IVec S4096x4096 32) (k b : Fin 4096) {n : ℕ} (hn : n ≤ 15)
    (hw : w (ix2 k b) = BitVec.ofNat 32 n) :
    Host.gather gather_S4096x16_S4096x4096x1_S4096x4096_n_1_0_0_1_2_11 x
      (broadcastInDim S4096x4096x1 ![0, 1] bcast_S4096x4096_S4096x4096x1_0_1
        (select (cmpi .slt w (broadcastInDim S4096x4096 ![] bcast_S_S4096x4096 (constantI S_ 32 0#32)))
          (addi w (broadcastInDim S4096x4096 ![] bcast_S_S4096x4096 (constantI S_ 32 16#32))) w)) (ix2 k b)
      = x (ix2 k (Fin.ofNat 16 n)) := by
  refine (pick_apply (by decide) _ x _ k b).trans (congrArg (fun c => x (ix2 k c)) (Fin.ext ?_))
  show min (BitVec.toInt _).toNat 15 = n % 16
  rw [Nat.mod_eq_of_lt (by omega)]
  pointwise []
  rw [hw]
  exact index_word hn

/-- The flattened knots. -/
theorem v13_apply (i o : Fin 64) (n : Fin 16) :
    vec S4096x16 (res_main_v13 V0) (ix2 (row i o) n) = argP1 V0 (ix3 i o n) := by
  unfold res_main_v13
  clean_types
  pointwise []
  rw [row_div, row_mod]

/-- The flattened values. -/
theorem v14_apply (i o : Fin 64) (n : Fin 16) :
    vec S4096x16 (res_main_v14 V0) (ix2 (row i o) n) = argV1 V0 (ix3 i o n) := by
  unfold res_main_v14
  clean_types
  pointwise []
  rw [row_div, row_mod]

/-- The number of the period. -/
theorem v4_apply (b : Fin 4096) (i : Fin 64) : vec S4096x64 (res_main_v4 V0) (ix2 b i) = period (argX V0 (ix2 b i)) := by
  unfold res_main_v4
  clean_types
  pointwise []
  rfl

/-- The remainder of the period's number by two. -/
theorem call0_apply (b : Fin 4096) (i : Fin 64) :
    vec S4096x64 (res_main_call0_v2 V0) (ix2 b i) = Ideal.remf (period (argX V0 (ix2 b i))) two := by
  have h := v4_apply V0 b i
  unfold res_main_call0_v2
  clean_types
  pointwise []
  exact congrArg (fun z => Ideal.remf z two) h

/-- The wrapped inputs, one row per edge. -/
theorem v17_apply (i o : Fin 64) (b : Fin 4096) :
    vec S4096x4096 (res_main_v17 V0) (ix2 (row i o) b) = wrap (argX V0 (ix2 b i)) := by
  have h := v4_apply V0 b
  unfold res_main_v17
  clean_types
  pointwise []
  rw [row_div]
  exact congrArg (fun z => argX V0 (ix2 b i) - z * two) (h i)

/-- The segment's number, as a word. -/
theorem v27_apply (k b : Fin 4096) :
    veci S4096x4096 (res_main_v27 V0) (ix2 k b)
      = BitVec.ofNat 32 (slot (fun n => vec S4096x16 (res_main_v13 V0) (ix2 k n))
          (vec S4096x4096 (res_main_v17 V0) (ix2 k b))) := by
  unfold res_main_v27
  clean_types
  pointwise []
  refine Eq.trans ?_ (clamp_word (below_le _ _))
  refine congrArg (fun c => IntOp.minsi 14#32 (IntOp.maxsi 0#32 (IntOp.subi c 1#32))) ?_
  refine (IndicatorCount.fold_addi_setWidth_eq_card _ _).trans (congrArg (BitVec.ofNat 32) ?_)
  unfold below
  refine congrArg Finset.card (Finset.filter_congr fun n _ => ?_)
  exact bit_iff _

/-- The left knot of the segment. -/
theorem v34_apply (k b : Fin 4096) :
    vec S4096x4096 (res_main_v34 V0) (ix2 k b)
      = nth (fun n => vec S4096x16 (res_main_v13 V0) (ix2 k n)) (slot (fun n => vec S4096x16 (res_main_v13 V0) (ix2 k n))
          (vec S4096x4096 (res_main_v17 V0) (ix2 k b))) :=
  pick1 (res_main_v13 V0) (res_main_v27 V0) k b ((slot_le _ _).trans (by decide)) (v27_apply V0 k b)

/-- The value at the left knot. -/
theorem v50_apply (k b : Fin 4096) :
    vec S4096x4096 (res_main_v50 V0) (ix2 k b)
      = nth (fun n => vec S4096x16 (res_main_v14 V0) (ix2 k n)) (slot (fun n => vec S4096x16 (res_main_v13 V0) (ix2 k n))
          (vec S4096x4096 (res_main_v17 V0) (ix2 k b))) :=
  pick1 (res_main_v14 V0) (res_main_v27 V0) k b ((slot_le _ _).trans (by decide)) (v27_apply V0 k b)

/-- The number of the segment's right knot, as a word. -/
theorem v36_apply (k b : Fin 4096) :
    veci S4096x4096 (res_main_v36 V0) (ix2 k b)
      = BitVec.ofNat 32 (slot (fun n => vec S4096x16 (res_main_v13 V0) (ix2 k n))
          (vec S4096x4096 (res_main_v17 V0) (ix2 k b)) + 1) := by
  have h := v27_apply V0 k b
  unfold res_main_v36
  clean_types
  pointwise []
  exact (congrArg (· + 1#32) h).trans (BitVec.ofNat_add _ _).symm

/-- The same number, for the values. -/
theorem v52_apply (k b : Fin 4096) :
    veci S4096x4096 (res_main_v52 V0) (ix2 k b)
      = BitVec.ofNat 32 (slot (fun n => vec S4096x16 (res_main_v13 V0) (ix2 k n))
          (vec S4096x4096 (res_main_v17 V0) (ix2 k b)) + 1) :=
  v36_apply V0 k b

/-- **The reference's first layer**: each element sums, over the inputs of its row, the edge's segment times the sign. -/
theorem v74_apply (b : Fin 4096) (o : Fin 64) :
    vec S4096x64 (res_main_v74 V0) (ix2 b o)
      = blendNode (fun i n => argP1 V0 (ix3 i o n)) (fun i n => argV1 V0 (ix3 i o n)) (fun i => argX V0 (ix2 b i)) := by
  have h34 := v34_apply V0
  have h50 := v50_apply V0
  have hp := fun k : Fin 4096 => pick1 (res_main_v13 V0) (res_main_v36 V0) k b (Nat.succ_le_succ (slot_le _ _)) (v36_apply V0 k b)
  have hv := fun k : Fin 4096 => pick1 (res_main_v14 V0) (res_main_v52 V0) k b (Nat.succ_le_succ (slot_le _ _)) (v52_apply V0 k b)
  unfold res_main_v74
  generalize Host.gather gather_S4096x16_S4096x4096x1_S4096x4096_n_1_0_0_1_2_11 (res_main_v13 V0) _ = gp at hp ⊢
  generalize Host.gather gather_S4096x16_S4096x4096x1_S4096x4096_n_1_0_0_1_2_11 (res_main_v14 V0) _ = gv at hv ⊢
  clean_types
  pointwise []
  refine Finset.sum_congr rfl fun i _ => ?_
  have hP : (fun n => vec S4096x16 (res_main_v13 V0) (ix2 (row i o) n)) = fun n => argP1 V0 (ix3 i o n) :=
    funext fun n => v13_apply V0 i o n
  have hV : (fun n => vec S4096x16 (res_main_v14 V0) (ix2 (row i o) n)) = fun n => argV1 V0 (ix3 i o n) :=
    funext fun n => v14_apply V0 i o n
  have hq := v17_apply V0 i o b
  have hL := h34 (row i o) b
  have hY := h50 (row i o) b
  have hR : gp (ix2 (row i o) b) = nth (fun n => vec S4096x16 (res_main_v13 V0) (ix2 (row i o) n)) (_ + 1) := hp (row i o)
  have hZ : gv (ix2 (row i o) b) = nth (fun n => vec S4096x16 (res_main_v14 V0) (ix2 (row i o) n)) (_ + 1) := hv (row i o)
  rw [hP, hq] at hL hR
  rw [hP, hV, hq] at hY hZ
  exact congrArg₂ (· * ·) (blend_of hY hq hL hR hZ) (sgn_of (call0_apply V0 b i) rfl)

end

end Pwl

end
-- ==== Proof.RefOut.lean ====
module

public import proofs.«01_k».proof.Proof.RefHidden

/-! # The reference's result, at an index

The second layer reads the first layer's result as the first reads the inputs, with thirty-two outputs. -/

@[expose] public section

set_option maxRecDepth 16384

open Idealize.ShloMosaic
open Cert.ReferenceIdeal Cert.ReferenceIdeal.Gen Cert.ReferenceIdeal.Value

namespace Pwl

/-- The second layer's gather over its rows, read as the first layer's. -/
theorem pick2 (x : FVec Ideal S2048x16 .f32) (w : IVec S2048x4096 32) (k : Fin 2048) (b : Fin 4096) {n : ℕ} (hn : n ≤ 15)
    (hw : w (ix2 k b) = BitVec.ofNat 32 n) :
    Host.gather gather_S2048x16_S2048x4096x1_S2048x4096_n_1_0_0_1_2_11 x
      (broadcastInDim S2048x4096x1 ![0, 1] bcast_S2048x4096_S2048x4096x1_0_1
        (select (cmpi .slt w (broadcastInDim S2048x4096 ![] bcast_S_S2048x4096 (constantI S_ 32 0#32)))
          (addi w (broadcastInDim S2048x4096 ![] bcast_S_S2048x4096 (constantI S_ 32 16#32))) w)) (ix2 k b)
      = x (ix2 k (Fin.ofNat 16 n)) := by
  refine (pick_apply (by decide) _ x _ k b).trans (congrArg (fun c => x (ix2 k c)) (Fin.ext ?_))
  show min (BitVec.toInt _).toNat 15 = n % 16
  rw [Nat.mod_eq_of_lt (by omega)]
  pointwise []
  rw [hw]
  exact index_word hn

section
variable (V0 : Valuation τ sig (Elt Ideal))

/-- The first layer's result. -/
noncomputable abbrev refHidden : S4096x64.Idx → EReal := vec S4096x64 (res_main_v74 V0)

/-- An edge's knots, in its row of the flattened array. -/
noncomputable abbrev knots2 (k : Fin 2048) : Fin 16 → EReal := fun n => vec S2048x16 (res_main_v88 V0) (ix2 k n)

/-- An edge's wrapped input, in its row of the flattened array. -/
noncomputable abbrev query2 (k : Fin 2048) (b : Fin 4096) : EReal := vec S2048x4096 (res_main_v92 V0) (ix2 k b)

/-- The flattened knots. -/
theorem v88_apply (i : Fin 64) (o : Fin 32) (n : Fin 16) : knots2 V0 (row i o) n = argP2 V0 (ix3 i o n) := by
  unfold knots2 res_main_v88
  clean_types
  pointwise []
  rw [row_div, row_mod]

/-- The flattened values. -/
theorem v89_apply (i : Fin 64) (o : Fin 32) (n : Fin 16) :
    vec S2048x16 (res_main_v89 V0) (ix2 (row i o) n) = argV2 V0 (ix3 i o n) := by
  unfold res_main_v89
  clean_types
  pointwise []
  rw [row_div, row_mod]

/-- The number of the period. -/
theorem v79_apply (b : Fin 4096) (i : Fin 64) :
    vec S4096x64 (res_main_v79 V0) (ix2 b i) = period (refHidden V0 (ix2 b i)) := by
  unfold res_main_v79
  clean_types
  pointwise []
  rfl

/-- The remainder of the period's number by two. -/
theorem call2_apply (b : Fin 4096) (i : Fin 64) :
    vec S4096x64 (res_main_call2_v2 V0) (ix2 b i) = Ideal.remf (period (refHidden V0 (ix2 b i))) two := by
  have h := v79_apply V0 b i
  unfold res_main_call2_v2
  clean_types
  pointwise []
  exact congrArg (fun z => Ideal.remf z two) h

/-- The wrapped inputs, one row per edge. -/
theorem v92_apply (i : Fin 64) (o : Fin 32) (b : Fin 4096) : query2 V0 (row i o) b = wrap (refHidden V0 (ix2 b i)) := by
  have h := v79_apply V0 b
  unfold query2 res_main_v92
  clean_types
  pointwise []
  rw [row_div]
  exact congrArg (fun z => refHidden V0 (ix2 b i) - z * two) (h i)

/-- The segment's number, as a word. -/
theorem v102_apply (k : Fin 2048) (b : Fin 4096) :
    veci S2048x4096 (res_main_v102 V0) (ix2 k b) = BitVec.ofNat 32 (slot (knots2 V0 k) (query2 V0 k b)) := by
  unfold res_main_v102
  clean_types
  pointwise []
  refine Eq.trans ?_ (clamp_word (below_le _ _))
  refine congrArg (fun c => IntOp.minsi 14#32 (IntOp.maxsi 0#32 (IntOp.subi c 1#32))) ?_
  refine (IndicatorCount.fold_addi_setWidth_eq_card _ _).trans (congrArg (BitVec.ofNat 32) ?_)
  unfold below
  refine congrArg Finset.card (Finset.filter_congr fun n _ => ?_)
  exact bit_iff _

/-- The number of the segment's right knot, as a word. -/
theorem v111_apply (k : Fin 2048) (b : Fin 4096) :
    veci S2048x4096 (res_main_v111 V0) (ix2 k b) = BitVec.ofNat 32 (slot (knots2 V0 k) (query2 V0 k b) + 1) := by
  have h := v102_apply V0 k b
  unfold res_main_v111
  clean_types
  pointwise []
  exact (congrArg (· + 1#32) h).trans (BitVec.ofNat_add _ _).symm

/-- **The reference's result**: each element sums, over the first layer's outputs of its row, the edge's segment times
the sign. -/
theorem v149_apply (b : Fin 4096) (o : Fin 32) :
    vec S4096x32 (val4 V0 (Proc.devRef .tc main_v149)) (ix2 b o)
      = blendNode (fun i n => argP2 V0 (ix3 i o n)) (fun i n => argV2 V0 (ix3 i o n)) (fun i => refHidden V0 (ix2 b i)) := by
  have h0 := fun k : Fin 2048 => (slot_le (knots2 V0 k) (query2 V0 k b)).trans (by decide : 14 ≤ 15)
  have h1 := fun k : Fin 2048 => Nat.succ_le_succ (slot_le (knots2 V0 k) (query2 V0 k b))
  have hl := fun k : Fin 2048 => pick2 (res_main_v88 V0) (res_main_v102 V0) k b (h0 k) (v102_apply V0 k b)
  have hy := fun k : Fin 2048 => pick2 (res_main_v89 V0) (res_main_v102 V0) k b (h0 k) (v102_apply V0 k b)
  have hr := fun k : Fin 2048 => pick2 (res_main_v88 V0) (res_main_v111 V0) k b (h1 k) (v111_apply V0 k b)
  have hz := fun k : Fin 2048 => pick2 (res_main_v89 V0) (res_main_v127 V0) k b (h1 k) (v111_apply V0 k b)
  rw [val4_main_v149]
  unfold res_main_v109 res_main_v125
  generalize Host.gather gather_S2048x16_S2048x4096x1_S2048x4096_n_1_0_0_1_2_11 (res_main_v88 V0) _ = gl at hl ⊢
  generalize Host.gather gather_S2048x16_S2048x4096x1_S2048x4096_n_1_0_0_1_2_11 (res_main_v89 V0) _ = gy at hy ⊢
  generalize Host.gather gather_S2048x16_S2048x4096x1_S2048x4096_n_1_0_0_1_2_11 (res_main_v88 V0) _ = gr at hr ⊢
  generalize Host.gather gather_S2048x16_S2048x4096x1_S2048x4096_n_1_0_0_1_2_11 (res_main_v89 V0) _ = gz at hz ⊢
  clean_types
  pointwise []
  refine Finset.sum_congr rfl fun i _ => ?_
  have hP : knots2 V0 (row i o) = fun n => argP2 V0 (ix3 i o n) := funext fun n => v88_apply V0 i o n
  have hV : (fun n => vec S2048x16 (res_main_v89 V0) (ix2 (row i o) n)) = fun n => argV2 V0 (ix3 i o n) :=
    funext fun n => v89_apply V0 i o n
  have hq := v92_apply V0 i o b
  have hL : gl (ix2 (row i o) b) = nth (knots2 V0 (row i o)) _ := hl (row i o)
  have hR : gr (ix2 (row i o) b) = nth (knots2 V0 (row i o)) (_ + 1) := hr (row i o)
  have hY : gy (ix2 (row i o) b) = nth (fun n => vec S2048x16 (res_main_v89 V0) (ix2 (row i o) n)) _ := hy (row i o)
  have hZ : gz (ix2 (row i o) b) = nth (fun n => vec S2048x16 (res_main_v89 V0) (ix2 (row i o) n)) (_ + 1) := hz (row i o)
  rw [hP, hq] at hL hR
  rw [hP, hV, hq] at hY hZ
  exact congrArg₂ (· * ·) (blend_of hY hq hL hR hZ) (sgn_of (call2_apply V0 b i) rfl)

end

end Pwl

end
-- ==== Proof.Mask.lean ====
module

public import proofs.«01_k».proof.Proof.Gen.On_off_knots
public import Idealize.ShloMosaic.Lib.Pointwise
public import Idealize.ShloMosaic.Lib.ReduceAll
public import Idealize.ShloMosaic.Lib.Affine
public import proofs.«01_k».proof.Proof.Node
public import proofs.«01_k».proof.Proof.Layout

/-! # What the mask says

The claim is made at the elements where no wrapped input of the row equals an inner knot of its edge, in either layer. -/

@[expose] public section

set_option maxRecDepth 16384

open Idealize.ShloMosaic
open Cert.On_off_knots Cert.On_off_knots.Gen

namespace Pwl

/-- A bit per row, spread along the columns. -/
theorem spread_apply (w : IVec S4096 1) (b : Fin 4096) (o : Fin 32) :
    broadcastInDim S4096x32 ![0, 1] bcast_S4096x1_S4096x32_0_1 (broadcastInDim S4096x1 ![0] bcast_S4096_S4096x1_0 w) (ix2 b o)
      = w (ix1 b) := by
  pointwise []

/-- Inner knot `n + 1`, as the slice of the inner knots holds it. -/
theorem nth_inner (f : Fin 16 → EReal) {n : ℕ} (hn : n < 14) (h : 1 + n < 16) : nth f (n + 1) = f ⟨1 + n, h⟩ :=
  congrArg f (Fin.ext (by
    show (n + 1) % 16 = 1 + n
    omega))

/-- Where the mask, of the inputs `x`, both layers' knots and the first layer's transposed result `h`, is 1: no wrapped
input of row `b` equals an inner knot of the first layer, and no wrapped first result of row `b` equals an inner knot of
the second layer's edges to output `o`. -/
theorem off_of_mask (x : FVec Ideal S4096x64 .f32) (p : FVec Ideal S64x64x16 .f32) (p' : FVec Ideal S64x32x16 .f32)
    (h : FVec Ideal S64x4096 .f32) (b : Fin 4096) (o : Fin 32) (e : fn_part4 x p p' h (ix2 b o) = 1#1) :
    (∀ o', OffKnots (fun i n => p (ix3 i o' n)) (fun i => x (ix2 b i)))
      ∧ OffKnots (fun i n => p' (ix3 i o n)) (fun i => h (ix2 i b)) := by
  unfold fn_part4 fn_part5 fn_part6 at e
  obtain ⟨ea, eb⟩ := IntOp.andi_eq_one.1 e
  clear e
  constructor
  · intro o' i n hn
    have e1 := Host.reduce_andi_eq_one _ _ _ _ (ix1 b) ((spread_apply _ b o).symm.trans ea) (ix2 b o') (by funext a; match a with | 0 => rfl)
    have e2 := Host.reduce_andi_eq_one _ _ _ _ (ix2 b o') e1 (ix4 b i o' ⟨n, hn⟩) (by funext a; match a with | 0 => rfl | 1 => rfl)
    clear ea eb e1
    pointwise [] at e2
    rw [nth_inner _ hn (by omega)]
    exact (bit_iff _).1 e2
  · intro i n hn
    have e2 := Host.reduce_andi_eq_one _ _ _ _ (ix2 b o) eb (ix4 b i o ⟨n, hn⟩) (by funext a; match a with | 0 => rfl | 1 => rfl)
    clear ea eb
    pointwise [] at e2
    rw [nth_inner _ hn (by omega)]
    exact (bit_iff _).1 e2

end Pwl

end
-- ==== Proof.Agree.lean ====
module

public import proofs.«01_k».proof.Proof.RefOut
public import proofs.«01_k».proof.Proof.Mask

/-! # The equation

At an element where the mask is 1 and every edge's knots are sorted, the kernel's two layers of selections and the
reference's two layers of segments found by counting are one number. -/

@[expose] public section

set_option maxRecDepth 16384

open Idealize.ShloMosaic
open Cert.ReferenceIdeal Cert.ReferenceIdeal.Gen Cert.ReferenceIdeal.Value

namespace Pwl

section
variable (V0 : Valuation τ sig (Elt Ideal))

/-- The mask, of the reference's arguments. -/
noncomputable abbrev mask : IVec S4096x32 1 :=
  Cert.On_off_knots.fn (F := Ideal) (V0 (Proc.devRef .tc main_arg0)) (V0 (Proc.devRef .tc main_arg1))
    (V0 (Proc.devRef .tc main_arg2)) (V0 (Proc.devRef .tc main_arg3)) (V0 (Proc.devRef .tc main_arg4))

/-- The mask compares the reference's own first layer's result with the second layer's knots. -/
theorem mask_hidden : ∃ h : FVec Ideal S64x4096 .f32,
    mask V0 = Cert.On_off_knots.fn_part4 (F := Ideal) (V0 (Proc.devRef .tc main_arg0)) (V0 (Proc.devRef .tc main_arg1))
        (V0 (Proc.devRef .tc main_arg3)) h
      ∧ res_main_v74 V0 = transpose S4096x64 [1, 0] h transposes_S64x4096_S4096x64_1_0 :=
  ⟨_, rfl, rfl⟩

/-- Where the mask is 1 no wrapped input of the row, and no wrapped first result, equals an inner knot of its edge. -/
theorem off_knots (b : Fin 4096) (o : Fin 32) (e : mask V0 (ix2 b o) = 1#1) :
    (∀ o', OffKnots (fun i n => argP1 V0 (ix3 i o' n)) (fun i => argX V0 (ix2 b i)))
      ∧ OffKnots (fun i n => argP2 V0 (ix3 i o n)) (fun i => refHidden V0 (ix2 b i)) := by
  obtain ⟨h, hm, hv⟩ := mask_hidden V0
  have hr : (fun i => refHidden V0 (ix2 b i)) = fun i : Fin 64 => (h (ix2 i b) : EReal) := by
    funext i
    unfold refHidden
    rw [hv]
    unfold vec
    pointwise []
  rw [hr]
  exact off_of_mask _ _ _ h b o ((congrFun hm (ix2 b o)).symm.trans e)

/-- **The equation**: sorted knots and the mask's 1 make the kernel's number the reference's. -/
theorem agree (hs : ∀ i o, Monotone fun n => argP1 V0 (ix3 i o n)) (hs' : ∀ i o, Monotone fun n => argP2 V0 (ix3 i o n))
    (b : Fin 4096) (o : Fin 32) (e : mask V0 (ix2 b o) = 1#1) :
    chainNode (fun i n => argP2 V0 (ix3 i o n)) (fun i n => argV2 V0 (ix3 i o n))
        (fun o' => chainNode (fun i n => argP1 V0 (ix3 i o' n)) (fun i n => argV1 V0 (ix3 i o' n)) (fun i => argX V0 (ix2 b i)))
      = vec S4096x32 (val4 V0 (Proc.devRef .tc main_v149)) (ix2 b o) := by
  obtain ⟨h1, h2⟩ := off_knots V0 b o e
  have hh : (fun o' => chainNode (fun i n => argP1 V0 (ix3 i o' n)) (fun i n => argV1 V0 (ix3 i o' n)) (fun i => argX V0 (ix2 b i)))
      = fun o' => refHidden V0 (ix2 b o') :=
    funext fun o' => (chainNode_eq _ (fun i => hs i o') (h1 o')).trans (v74_apply V0 b o').symm
  rw [hh, v149_apply]
  exact chainNode_eq _ (fun i => hs' i o) h2

end

end Pwl

end
-- ==== Proof.Sorted.lean ====
module

public import proofs.«01_k».proof.Proof.Gen.Pre_knots_sorted
public import Idealize.ShloMosaic.Lib.Pointwise
public import Idealize.ShloMosaic.Lib.ReduceAll
public import Idealize.ShloMosaic.Lib.Affine
public import proofs.«01_k».proof.Proof.Layout

/-! # What the precondition says

Each edge's sixteen knots are in order. -/

@[expose] public section

set_option maxRecDepth 16384

open Idealize.ShloMosaic
open Cert.Pre_knots_sorted Cert.Pre_knots_sorted.Gen

namespace Pwl

/-- Where the precondition's value is 1, every edge's knots are in order, in both layers. -/
theorem sorted_of_pre (x : FVec Ideal S4096x64 .f32) (p v : FVec Ideal S64x64x16 .f32) (p' v' : FVec Ideal S64x32x16 .f32)
    (e : fn x p v p' v' = fun _ => 1#1) :
    (∀ i o, Monotone fun n : Fin 16 => (p (ix3 i o n) : EReal)) ∧ ∀ i o, Monotone fun n : Fin 16 => (p' (ix3 i o n) : EReal) := by
  have e := congrFun e ix0
  unfold fn at e
  obtain ⟨ea, eb⟩ := IntOp.andi_eq_one.1 e
  clear e
  refine ⟨fun i o => Fin.monotone_iff_le_succ.2 fun n => ?_, fun i o => Fin.monotone_iff_le_succ.2 fun n => ?_⟩
  · have e2 := Host.reduce_andi_eq_one _ _ _ _ ix0 ea (ix3 i o n) (funext fun a => a.elim0)
    clear ea eb
    pointwise [] at e2
    exact ((bit_iff _).1 e2).trans_eq (congrArg (fun k => p (ix3 i o k)) (Fin.ext (Nat.add_comm 1 n.val)))
  · have e2 := Host.reduce_andi_eq_one _ _ _ _ ix0 eb (ix3 i o n) (funext fun a => a.elim0)
    clear ea eb
    pointwise [] at e2
    exact ((bit_iff _).1 e2).trans_eq (congrArg (fun k => p' (ix3 i o k)) (Fin.ext (Nat.add_comm 1 n.val)))

end Pwl

end
-- ==== Proof.Algebraic.lean ====
module

public import proofs.«01_k».proof.Defs
public import proofs.«01_k».proof.Proof.Array
public import proofs.«01_k».proof.Proof.Agree
public import proofs.«01_k».proof.Proof.Sorted

/-! # The value claim

Over the extended reals the kernel's result and the reference's agree, where the mask is 1, for sorted knots. -/

@[expose] public section

set_option maxRecDepth 16384

open Idealize.ShloMosaic Idealize.ShloMosaic.TcCoe Idealize.SL.Sem

namespace Pwl

section
variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))

/-- The kernel's number at an element is the reference's, where both have the same arguments, the knots are sorted and
the mask is 1. -/
theorem out_eq_of_args (h0 : argX V0 = kX m c) (h1 : argP1 V0 = kP1 m c) (h2 : argV1 V0 = kV1 m c) (h3 : argP2 V0 = kP2 m c)
    (h4 : argV2 V0 = kV2 m c) (hs : ∀ i o, Monotone fun n => kP1 m c (ix3 i o n))
    (hs' : ∀ i o, Monotone fun n => kP2 m c (ix3 i o n)) (b : Fin 4096) (o : Fin 32)
    (e : Cert.On_off_knots.fn (F := Ideal) (kX m c) (kP1 m c) (kV1 m c) (kP2 m c) (kV2 m c) (ix2 b o) = 1#1) :
    kOut m c b o = vec Cert.ReferenceIdeal.S4096x32 (Cert.ReferenceIdeal.Value.val4 V0 (Proc.devRef .tc Cert.ReferenceIdeal.main_v149)) (ix2 b o) := by
  rw [← h0, ← h1, ← h2, ← h3, ← h4] at e
  rw [← agree V0 (by rwa [h1]) (by rwa [h3]) b o e, h0, h1, h2, h3, h4]
  rfl

end

/-- **The algebraic claim.** -/
theorem algebraic : Cert.algebraic_KernelIdeal_ReferenceIdeal_on_off_knots_pre_knots_sorted := by
  intro m g m' g' hpre hagree
  refine ⟨fun c => Cert.ReferenceIdeal.Value.val4 (StableHlo.launchContents m' c) (Proc.devRef .tc Cert.ReferenceIdeal.main_v149), ?_, ?_⟩
  · refine (θ_run _ _ _).mono (fun r h c => ⟨fun i hi => ?_, (h c).2⟩) (Cert.KernelIdeal.Value.run_blocks m g)
    obtain ⟨h0, h1, h2, h3, h4⟩ := hagree c
    obtain ⟨hs, hs'⟩ := sorted_of_pre _ _ _ _ _ (hpre c)
    obtain ⟨b, o, rfl⟩ : ∃ (b : Fin 4096) (o : Fin 32), i = ix2 b o := ⟨i 0, i 1, eq_ix2 i⟩
    exact (congrFun ((h c).1.trans (array_value m c)) (ix2 b o)).trans
      (out_eq_of_args m c (StableHlo.launchContents m' c) h0 h1 h2 h3 h4 hs hs' b o hi)
  · exact (θ_run _ _ _).mono
      (fun r h c => ⟨fun i _ => congrFun ((h c).1.trans (Cert.ReferenceIdeal.Value.val4_main_v149 _).symm) i, (h c).2⟩)
      (Cert.ReferenceIdeal.Value.run m' g')

end Pwl

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_knots_sorted
public import proofs.«01_k».proof.Proof.Gen.On_off_knots
public import proofs.«01_k».proof.Proof.Algebraic

/-! # The certificate

The kernel, over bit patterns and over the extended reals, and the reference over the extended reals run and leave their
arguments unchanged; the kernel keeps its operations between the two number systems; and over the extended reals kernel
and reference agree on every element where the mask is 1, for sorted knots. -/

@[expose] public section

noncomputable section

namespace Cert.Proof

open Idealize.ShloMosaic Idealize.SL.Sem

/-- The reference runs and leaves its arguments unchanged; it has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Everything the certificate claims. -/
theorem claim : Cert.Claim := ⟨Cert.Kernel.Gen.facts, Cert.KernelIdeal.Gen.facts, Cert.ReferenceIdeal.Gen.facts, Cert.Pre_knots_sorted.Gen.facts, Cert.On_off_knots.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  Pwl.algebraic⟩

end Cert.Proof

end

end
